-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x32x32 : Shape := ⟨4, ![8, 32, 32, 32]⟩
abbrev S8192x32 : Shape := ⟨2, ![8192, 32]⟩
abbrev S32x8192 : Shape := ⟨2, ![32, 8192]⟩
abbrev S_ : Shape := ⟨0, ![]⟩
abbrev S8192x8192 : Shape := ⟨2, ![8192, 8192]⟩
abbrev S8192x1 : Shape := ⟨2, ![8192, 1]⟩
abbrev S1x1 : Shape := ⟨2, ![1, 1]⟩
abbrev S256x32 : Shape := ⟨2, ![256, 32]⟩
abbrev S256x8192 : Shape := ⟨2, ![256, 8192]⟩
abbrev S256x1 : Shape := ⟨2, ![256, 1]⟩
abbrev S1x8192 : Shape := ⟨2, ![1, 8192]⟩
abbrev S256x16 : Shape := ⟨2, ![256, 16]⟩
abbrev S256x8 : Shape := ⟨2, ![256, 8]⟩
abbrev S256x4 : Shape := ⟨2, ![256, 4]⟩
abbrev S256x2 : Shape := ⟨2, ![256, 2]⟩
abbrev S16x8192 : Shape := ⟨2, ![16, 8192]⟩
abbrev S8x8192 : Shape := ⟨2, ![8, 8192]⟩
abbrev S4x8192 : Shape := ⟨2, ![4, 8192]⟩
abbrev S2x8192 : Shape := ⟨2, ![2, 8192]⟩
abbrev S32x512 : Shape := ⟨2, ![32, 512]⟩
abbrev S256x512 : Shape := ⟨2, ![256, 512]⟩
abbrev S1x512 : Shape := ⟨2, ![1, 512]⟩
abbrev S256 : Shape := ⟨1, ![256]⟩
abbrev S512 : Shape := ⟨1, ![512]⟩
abbrev S1x256x32 : Shape := ⟨3, ![1, 256, 32]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 18
  | .vmem => 15
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S32x8192, .f32⟩
  | .hbm, ⟨5, _⟩ => ⟨S_, .f32⟩
  | .hbm, ⟨6, _⟩ => ⟨S32x8192, .f32⟩
  | .hbm, ⟨7, _⟩ => ⟨S32x8192, .f32⟩
  | .hbm, ⟨8, _⟩ => ⟨S32x8192, .bf16⟩
  | .hbm, ⟨9, _⟩ => ⟨S8192x8192, .f32⟩
  | .hbm, ⟨10, _⟩ => ⟨S8192x32, .f32⟩
  | .hbm, ⟨11, _⟩ => ⟨S8192x1, .i32⟩
  | .hbm, ⟨12, _⟩ => ⟨S1x1, .f32⟩
  | .hbm, ⟨13, _⟩ => ⟨S1x1, .f32⟩
  | .hbm, ⟨14, _⟩ => ⟨S8x32x32x32, .f32⟩
  | .hbm, ⟨15, _⟩ => ⟨S8x32x32x32, .f32⟩
  | .hbm, ⟨16, _⟩ => ⟨S_, .f32⟩
  | .hbm, ⟨17, _⟩ => ⟨S_, .f32⟩
  | .local _ .vmem, ⟨0, _⟩ => ⟨S256x32, .f32⟩
  | .local _ .vmem, ⟨1, _⟩ => ⟨S256x32, .f32⟩
  | .local _ .vmem, ⟨2, _⟩ => ⟨S8192x32, .f32⟩
  | .local _ .vmem, ⟨3, _⟩ => ⟨S32x8192, .f32⟩
  | .local _ .vmem, ⟨4, _⟩ => ⟨S32x8192, .bf16⟩
  | .local _ .vmem, ⟨5, _⟩ => ⟨S256x8192, .f32⟩
  | .local _ .vmem, ⟨6, _⟩ => ⟨S256x8192, .f32⟩
  | .local _ .vmem, ⟨7, _⟩ => ⟨S256x32, .f32⟩
  | .local _ .vmem, ⟨8, _⟩ => ⟨S256x32, .f32⟩
  | .local _ .vmem, ⟨9, _⟩ => ⟨S256x1, .i32⟩
  | .local _ .vmem, ⟨10, _⟩ => ⟨S256x1, .i32⟩
  | .local _ .vmem, ⟨11, _⟩ => ⟨S1x1, .f32⟩
  | .local _ .vmem, ⟨12, _⟩ => ⟨S1x1, .f32⟩
  | .local _ .vmem, ⟨13, _⟩ => ⟨S1x8192, .f32⟩
  | .local _ .vmem, ⟨14, _⟩ => ⟨S1x1, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_v0_3 : Ref sig .tc := ⟨.hbm, 9, rfl⟩
abbrev main_call0_v6_1 : Ref sig .tc := ⟨.hbm, 10, rfl⟩
abbrev main_v0_4 : Ref sig .tc := ⟨.hbm, 11, rfl⟩
abbrev main_call0_v6_3 : Ref sig .tc := ⟨.hbm, 12, rfl⟩
abbrev main_call0_v6_4 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v680 : BitVec 1 := Scalar.cmpi .eq arg0 c31_i32
  let v681 : BitVec 32 := Scalar.extui v680
  let c0_i32_262 : BitVec 32 := 0#32
  let v682 : BitVec 1 := Scalar.cmpi .ne v681 c0_i32_262
  v682

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192x32, .f32⟩
  | .hbm, ⟨47, _⟩ => ⟨S8x32x32x32, .f32⟩
  | .hbm, ⟨48, _⟩ => ⟨S8x32x32x32, .f32⟩
  | .hbm, ⟨49, _⟩ => ⟨S8x32x32x32, .f32⟩
  | .hbm, ⟨50, _⟩ => ⟨S8x32x32x32, .f32⟩
  | .hbm, ⟨51, _⟩ => ⟨S8x32x32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x32x32x32, .f32⟩
  | .hbm, ⟨57, _⟩ => ⟨S8x32x32x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x32x32x32, .f32⟩
  | .hbm, ⟨66, _⟩ => ⟨S8192x1, .i32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Proof.FrK.lean ====
module

public import proofs.«01_k».proof.Defs
public import proofs.«01_k».proof.Proof.Gen.Kernel.Frame
public import proofs.«01_k».proof.Proof.Gen.KernelIdeal.Frame

@[expose] public section

namespace Cert.Proof

open Idealize.ShloMosaic Idealize.SL.Sem

/-- The kernel, run from any launch, ends with its arguments unchanged and every counter at zero. -/
theorem frame_k : Cert.quiescent_Kernel := fun m ρ _ => Cert.Kernel.Gen.frame m ρ

/-- The same of the kernel over the extended reals. -/
theorem frame_ki : Cert.quiescent_KernelIdeal := fun m ρ _ => Cert.KernelIdeal.Gen.frame m ρ

end Cert.Proof
-- ==== Proof.RefRun.lean ====
/- The reference's run: its operations as a straight line cut into five stretches, what each stretch leaves in the
   buffers that later stretches read, and the run's five results as named terms over the two arguments. -/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations up to the matrix of squared distances. -/
abbrev opsA : List (HloOp τ sig (Elt F)) :=
  [ unary main_arg0 main_v0 ((transpose S8x32x32x32 [0, 2, 3, 1] · transposes_S8x32x32x32_S8x32x32x32_0_2_3_1) : (⟨S8x32x32x32, .f32⟩ : BufTy).Contents (Elt F) → (⟨S8x32x32x32, .f32⟩ : BufTy).Contents (Elt F)),
    reshape main_v0 main_v1 (rfl : (.f32 : EltTy) = .f32) shapeCasts_S8x32x32x32_S8192x32,
    binary main_v1 main_v1 main_v2 (mulf : (⟨S8192x32, .f32⟩ : BufTy).Contents (Elt F) → (⟨S8192x32, .f32⟩ : BufTy).Contents (Elt F) → (⟨S8192x32, .f32⟩ : BufTy).Contents (Elt F)),
    nullary main_cst (constant S_ .f32 0x00000000#32),
    binary main_v2 main_cst main_v3 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    binary main_arg1 main_arg1 main_v5 (mulf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x00000000#32),
    binary main_v5 main_cst_0 main_v6 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v6 main_v7 (broadcastInDim S1x8192 ![1] bcast_S8192_S1x8192_1 : (⟨S8192, .f32⟩ : BufTy).Contents (Elt F) → (⟨S1x8192, .f32⟩ : BufTy).Contents (Elt F)),
    unary main_v4 main_v8 (broadcastInDim S8192x8192 ![0, 1] bcast_S8192x1_S8192x8192_0_1 : (⟨S8192x1, .f32⟩ : BufTy).Contents (Elt F) → (⟨S8192x8192, .f32⟩ : BufTy).Contents (Elt F)),
    unary main_v7 main_v9 (broadcastInDim S8192x8192 ![0, 1] bcast_S1x8192_S8192x8192_0_1 : (⟨S1x8192, .f32⟩ : BufTy).Contents (Elt F) → (⟨S8192x8192, .f32⟩ : BufTy).Contents (Elt F)),
    binary main_v8 main_v9 main_v10 (addf : (⟨S8192x8192, .f32⟩ : BufTy).Contents (Elt F) → (⟨S8192x8192, .f32⟩ : BufTy).Contents (Elt F) → (⟨S8192x8192, .f32⟩ : BufTy).Contents (Elt F)),
    unary main_arg1 main_v11 ((transpose S32x8192 [1, 0] · transposes_S8192x32_S32x8192_1_0) : (⟨S8192x32, .f32⟩ : BufTy).Contents (Elt F) → (⟨S32x8192, .f32⟩ : BufTy).Contents (Elt F)),
    binary main_v1 main_v11 main_v12 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    nullary main_cst_1 (constant S_ .f32 0x40000000#32),
    unary main_cst_1 main_v13 (broadcastInDim S8192x8192 ![] bcast_S_S8192x8192 : (⟨S_, .f32⟩ : BufTy).Contents (Elt F) → (⟨S8192x8192, .f32⟩ : BufTy).Contents (Elt F)),
    binary main_v13 main_v12 main_v14 (mulf : (⟨S8192x8192, .f32⟩ : BufTy).Contents (Elt F) → (⟨S8192x8192, .f32⟩ : BufTy).Contents (Elt F) → (⟨S8192x8192, .f32⟩ : BufTy).Contents (Elt F)),
    binary main_v10 main_v14 main_v15 (subf : (⟨S8192x8192, .f32⟩ : BufTy).Contents (Elt F) → (⟨S8192x8192, .f32⟩ : BufTy).Contents (Elt F) → (⟨S8192x8192, .f32⟩ : BufTy).Contents (Elt F)) ]

/-- The operations of the first-minimum search. -/
abbrev opsB : List (HloOp τ sig (Elt F)) :=
  [ nullary main_call0_v0 (iotaInDim S8192x8192 32 1),
    nullary main_call0_cst (constant S_ .f32 0x7F800000#32),
    nullary main_call0_c (constantI S_ 32 0#32),
    quaternary main_v15 main_call0_v0 main_call0_cst main_call0_c main_call0_v1_0 ((fun x y u v j => (Host.argReduce reducer_argmin_f32_i32 x y u v reducesTo_S8192x8192_S8192_d1 h_S_ j).1) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .f32⟩ : BufTy).Contents (Elt F)),
    quaternary main_v15 main_call0_v0 main_call0_cst main_call0_c main_v16 ((fun x y u v j => (Host.argReduce reducer_argmin_f32_i32 x y u v reducesTo_S8192x8192_S8192_d1 h_S_ j).2) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .i32⟩ : BufTy).Contents (Elt F)) ]

/-- The operations of the one-hot rows. -/
abbrev opsC : List (HloOp τ sig (Elt F)) :=
  [ unary main_v16 main_call1_v0 (broadcastInDim S8192x1 ![0] bcast_S8192_S8192x1_0 : (⟨S8192, .i32⟩ : BufTy).Contents (Elt F) → (⟨S8192x1, .i32⟩ : BufTy).Contents (Elt F)),
    nullary main_call1_v1 (iotaInDim S1x8192 32 1),
    unary main_call1_v0 main_call1_v2 (broadcastInDim S8192x8192 ![0, 1] bcast_S8192x1_S8192x8192_0_1 : (⟨S8192x1, .i32⟩ : BufTy).Contents (Elt F) → (⟨S8192x8192, .i32⟩ : BufTy).Contents (Elt F)),
    unary main_call1_v1 main_call1_v3 (broadcastInDim S8192x8192 ![0, 1] bcast_S1x8192_S8192x8192_0_1 : (⟨S1x8192, .i32⟩ : BufTy).Contents (Elt F) → (⟨S8192x8192, .i32⟩ : BufTy).Contents (Elt F)),
    binary main_call1_v2 main_call1_v3 main_call1_v4 (cmpi .eq : (⟨S8192x8192, .i32⟩ : BufTy).Contents (Elt F) → (⟨S8192x8192, .i32⟩ : BufTy).Contents (Elt F) → (⟨S8192x8192, .i1⟩ : BufTy).Contents (Elt F)),
    unary main_call1_v4 main_v17 (uitofp .f32 : (⟨S8192x8192, .i1⟩ : BufTy).Contents (Elt F) → (⟨S8192x8192, .f32⟩ : BufTy).Contents (Elt F)) ]

/-- The operations of the perplexity. -/
abbrev opsD : List (HloOp τ sig (Elt F)) :=
  [ nullary main_cst_2 (constant S_ .f32 0x00000000#32),
    binary main_v17 main_cst_2 main_v18 ((fun x v => Host.reduceAdd x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0x46000000#32),
    unary main_cst_3 main_v19 (broadcastInDim S8192 ![] bcast_S_S8192 : (⟨S_, .f32⟩ : BufTy).Contents (Elt F) → (⟨S8192, .f32⟩ : BufTy).Contents (Elt F)),
    binary main_v18 main_v19 main_v20 (Host.divf : (⟨S8192, .f32⟩ : BufTy).Contents (Elt F) → (⟨S8192, .f32⟩ : BufTy).Contents (Elt F) → (⟨S8192, .f32⟩ : BufTy).Contents (Elt F)),
    nullary main_cst_4 (constant S_ .f32 0x2EDBE6FF#32),
    unary main_cst_4 main_v21 (broadcastInDim S8192 ![] bcast_S_S8192 : (⟨S_, .f32⟩ : BufTy).Contents (Elt F) → (⟨S8192, .f32⟩ : BufTy).Contents (Elt F)),
    binary main_v20 main_v21 main_v22 (addf : (⟨S8192, .f32⟩ : BufTy).Contents (Elt F) → (⟨S8192, .f32⟩ : BufTy).Contents (Elt F) → (⟨S8192, .f32⟩ : BufTy).Contents (Elt F)),
    unary main_v22 main_v23 (Host.log : (⟨S8192, .f32⟩ : BufTy).Contents (Elt F) → (⟨S8192, .f32⟩ : BufTy).Contents (Elt F)),
    binary main_v20 main_v23 main_v24 (mulf : (⟨S8192, .f32⟩ : BufTy).Contents (Elt F) → (⟨S8192, .f32⟩ : BufTy).Contents (Elt F) → (⟨S8192, .f32⟩ : BufTy).Contents (Elt F)),
    nullary main_cst_5 (constant S_ .f32 0x00000000#32),
    binary main_v24 main_cst_5 main_v25 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)),
    unary main_v26 main_v27 (Host.exp : (⟨S_, .f32⟩ : BufTy).Contents (Elt F) → (⟨S_, .f32⟩ : BufTy).Contents (Elt F)) ]

/-- The operations of the quantised rows, the loss and the last two results. -/
abbrev opsE : List (HloOp τ sig (Elt F)) :=
  [ binary main_v17 main_arg1 main_v28 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    reshape main_v28 main_v29 (rfl : (.f32 : EltTy) = .f32) shapeCasts_S8192x32_S8x32x32x32,
    binary main_v29 main_v0 main_v30 (subf : (⟨S8x32x32x32, .f32⟩ : BufTy).Contents (Elt F) → (⟨S8x32x32x32, .f32⟩ : BufTy).Contents (Elt F) → (⟨S8x32x32x32, .f32⟩ : BufTy).Contents (Elt F)),
    binary main_v0 main_v30 main_v31 (addf : (⟨S8x32x32x32, .f32⟩ : BufTy).Contents (Elt F) → (⟨S8x32x32x32, .f32⟩ : BufTy).Contents (Elt F) → (⟨S8x32x32x32, .f32⟩ : BufTy).Contents (Elt F)),
    binary main_v31 main_v0 main_v32 (subf : (⟨S8x32x32x32, .f32⟩ : BufTy).Contents (Elt F) → (⟨S8x32x32x32, .f32⟩ : BufTy).Contents (Elt F) → (⟨S8x32x32x32, .f32⟩ : BufTy).Contents (Elt F)),
    binary main_v32 main_v32 main_v33 (mulf : (⟨S8x32x32x32, .f32⟩ : BufTy).Contents (Elt F) → (⟨S8x32x32x32, .f32⟩ : BufTy).Contents (Elt F) → (⟨S8x32x32x32, .f32⟩ : BufTy).Contents (Elt F)),
    nullary main_cst_6 (constant S_ .f32 0x00000000#32),
    binary main_v33 main_cst_6 main_v34 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
    nullary main_cst_7 (constant S_ .f32 0x48800000#32),
    binary main_v34 main_cst_7 main_v35 (Host.divf : (⟨S_, .f32⟩ : BufTy).Contents (Elt F) → (⟨S_, .f32⟩ : BufTy).Contents (Elt F) → (⟨S_, .f32⟩ : BufTy).Contents (Elt F)),
    binary main_v31 main_v0 main_v36 (subf : (⟨S8x32x32x32, .f32⟩ : BufTy).Contents (Elt F) → (⟨S8x32x32x32, .f32⟩ : BufTy).Contents (Elt F) → (⟨S8x32x32x32, .f32⟩ : BufTy).Contents (Elt F)),
    binary main_v36 main_v36 main_v37 (mulf : (⟨S8x32x32x32, .f32⟩ : BufTy).Contents (Elt F) → (⟨S8x32x32x32, .f32⟩ : BufTy).Contents (Elt F) → (⟨S8x32x32x32, .f32⟩ : BufTy).Contents (Elt F)),
    nullary main_cst_8 (constant S_ .f32 0x00000000#32),
    binary main_v37 main_cst_8 main_v38 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
    nullary main_cst_9 (constant S_ .f32 0x48800000#32),
    binary main_v38 main_cst_9 main_v39 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v39 main_v40 (mulf : (⟨S_, .f32⟩ : BufTy).Contents (Elt F) → (⟨S_, .f32⟩ : BufTy).Contents (Elt F) → (⟨S_, .f32⟩ : BufTy).Contents (Elt F)),
    binary main_v35 main_v40 main_v41 (addf : (⟨S_, .f32⟩ : BufTy).Contents (Elt F) → (⟨S_, .f32⟩ : BufTy).Contents (Elt F) → (⟨S_, .f32⟩ : BufTy).Contents (Elt F)),
    unary main_v31 main_v42 ((transpose S8x32x32x32 [0, 3, 1, 2] · transposes_S8x32x32x32_S8x32x32x32_0_3_1_2) : (⟨S8x32x32x32, .f32⟩ : BufTy).Contents (Elt F) → (⟨S8x32x32x32, .f32⟩ : BufTy).Contents (Elt F)),
    unary main_v16 main_v43 (broadcastInDim S8192x1 ![0] bcast_S8192_S8192x1_0 : (⟨S8192, .i32⟩ : BufTy).Contents (Elt F) → (⟨S8192x1, .i32⟩ : BufTy).Contents (Elt F)) ]

/-- They touch tensor-core buffers only. -/
theorem opsA_sub : (opsA (F := F)).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- They touch tensor-core buffers only. -/
theorem opsB_sub : (opsB (F := F)).Forall fun op => op.bufs ⊆ tcRefs τ sig :=
  ⟨nullary_bufs_sub .., nullary_bufs_sub .., nullary_bufs_sub .., quaternary_bufs_sub .., quaternary_bufs_sub ..⟩

/-- They touch tensor-core buffers only. -/
theorem opsC_sub : (opsC (F := F)).Forall fun op => op.bufs ⊆ tcRefs τ sig :=
  ⟨unary_bufs_sub .., nullary_bufs_sub .., unary_bufs_sub .., unary_bufs_sub .., binary_bufs_sub .., unary_bufs_sub ..⟩

/-- They touch tensor-core buffers only. -/
theorem opsD_sub : (opsD (F := F)).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

/-- They touch tensor-core buffers only. -/
theorem opsE_sub : (opsE (F := F)).Forall fun op => op.bufs ⊆ tcRefs τ sig :=
  ⟨binary_bufs_sub .., reshape_bufs_sub .., binary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., unary_bufs_sub .., unary_bufs_sub ..⟩

/-- The whole line. -/
abbrev ops : List (HloOp τ sig (Elt F)) := opsA ++ (opsB ++ (opsC ++ (opsD ++ opsE)))

/-- @main is that line. -/
theorem main_eq (c : Dev nD) : main (F := F) c = seq ops := rfl

/-- Nothing is scoped on this signature. -/
theorem scopedRefs_eq : (Finset.univ.filter fun b : Ref sig .tc => b.isScoped) = ∅ := by decide
/-- No counter is scoped either. -/
theorem scopedSems_eq : (Finset.univ.filter fun sm : SemLoc sig => sm.isScoped .tc) = ∅ := by decide

/-- The whole line touches tensor-core buffers only. -/
theorem ops_sub : (ops (F := F)).Forall fun op => op.bufs ⊆ tcRefs τ sig := by
  simp only [List.forall_append]
  exact ⟨opsA_sub, opsB_sub, opsC_sub, opsD_sub, opsE_sub⟩

/-- Folding two lines one after the other is folding their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The images with their channels last. -/
def zT (x : (⟨S8x32x32x32, .f32⟩ : BufTy).Contents (Elt F)) : (⟨S8x32x32x32, .f32⟩ : BufTy).Contents (Elt F) :=
  transpose S8x32x32x32 [0, 2, 3, 1] x transposes_S8x32x32x32_S8x32x32x32_0_2_3_1

/-- The images as 8192 rows of 32 channels. -/
def zF (x : (⟨S8x32x32x32, .f32⟩ : BufTy).Contents (Elt F)) : (⟨S8192x32, .f32⟩ : BufTy).Contents (Elt F) :=
  shapeCast S8192x32 (zT x) shapeCasts_S8x32x32x32_S8192x32

/-- The squared distance of every row from every code, in the reference's arrangement. -/
def dist (z e : (⟨S8192x32, .f32⟩ : BufTy).Contents (Elt F)) : (⟨S8192x8192, .f32⟩ : BufTy).Contents (Elt F) :=
  subf (addf
      (broadcastInDim S8192x8192 ![0, 1] bcast_S8192x1_S8192x8192_0_1 (broadcastInDim S8192x1 ![0] bcast_S8192_S8192x1_0
        (Host.reduceAdd (mulf z z) (constant S_ .f32 0x00000000#32) reducesTo_S8192x32_S8192_d1 h_S_)))
      (broadcastInDim S8192x8192 ![0, 1] bcast_S1x8192_S8192x8192_0_1 (broadcastInDim S1x8192 ![1] bcast_S8192_S1x8192_1
        (Host.reduceAdd (mulf e e) (constant S_ .f32 0x00000000#32) reducesTo_S8192x32_S8192_d1 h_S_))))
    (mulf (broadcastInDim S8192x8192 ![] bcast_S_S8192x8192 (constant S_ .f32 0x40000000#32))
      (Host.dotGeneral dot_S8192x32_S32x8192_S8192x8192_1_0_0_1_n_n none z
        (transpose S32x8192 [1, 0] e transposes_S8192x32_S32x8192_1_0)))

/-- The column of each row's first minimum. -/
def amin (d : (⟨S8192x8192, .f32⟩ : BufTy).Contents (Elt F)) : (⟨S8192, .i32⟩ : BufTy).Contents (Elt F) :=
  fun j => (Host.argReduce reducer_argmin_f32_i32 d (iotaInDim S8192x8192 32 1) (constant S_ .f32 0x7F800000#32)
    (constantI S_ 32 0#32) reducesTo_S8192x8192_S8192_d1 h_S_ j).2

/-- The one-hot rows of a column of indices. -/
def hot (i : (⟨S8192, .i32⟩ : BufTy).Contents (Elt F)) : (⟨S8192x8192, .f32⟩ : BufTy).Contents (Elt F) :=
  uitofp .f32 (cmpi .eq
    (broadcastInDim S8192x8192 ![0, 1] bcast_S8192x1_S8192x8192_0_1 (broadcastInDim S8192x1 ![0] bcast_S8192_S8192x1_0 i))
    (broadcastInDim S8192x8192 ![0, 1] bcast_S1x8192_S8192x8192_0_1 (iotaInDim S1x8192 32 1)))

/-- The mean of the one-hot rows. -/
def emean (h : (⟨S8192x8192, .f32⟩ : BufTy).Contents (Elt F)) : (⟨S8192, .f32⟩ : BufTy).Contents (Elt F) :=
  Host.divf (Host.reduceAdd h (constant S_ .f32 0x00000000#32) reducesTo_S8192x8192_S8192_d0 h_S_)
    (broadcastInDim S8192 ![] bcast_S_S8192 (constant S_ .f32 0x46000000#32))

/-- The perplexity of a mean of one-hot rows. -/
def perp (p : (⟨S8192, .f32⟩ : BufTy).Contents (Elt F)) : (⟨S_, .f32⟩ : BufTy).Contents (Elt F) :=
  Host.exp (Host.negf (Host.reduceAdd (mulf p (Host.log (addf p
    (broadcastInDim S8192 ![] bcast_S_S8192 (constant S_ .f32 0x2EDBE6FF#32))))) (constant S_ .f32 0x00000000#32)
    reducesTo_S8192_S_d0 h_S_))

/-- The quantised images, in the straight-through arrangement. -/
def zq (t : (⟨S8x32x32x32, .f32⟩ : BufTy).Contents (Elt F)) (h : (⟨S8192x8192, .f32⟩ : BufTy).Contents (Elt F))
    (e : (⟨S8192x32, .f32⟩ : BufTy).Contents (Elt F)) : (⟨S8x32x32x32, .f32⟩ : BufTy).Contents (Elt F) :=
  addf t (subf (shapeCast S8x32x32x32 (Host.dotGeneral dot_S8192x8192_S8192x32_S8192x32_1_0_0_1_n_n none h e)
    shapeCasts_S8192x32_S8x32x32x32) t)

/-- The mean square of the difference. -/
def mse (q t : (⟨S8x32x32x32, .f32⟩ : BufTy).Contents (Elt F)) : (⟨S_, .f32⟩ : BufTy).Contents (Elt F) :=
  Host.divf (Host.reduceAdd (mulf (subf q t) (subf q t)) (constant S_ .f32 0x00000000#32)
    reducesTo_S8x32x32x32_S_d0_1_2_3 h_S_) (constant S_ .f32 0x48800000#32)

/-- The loss. -/
def loss (q t : (⟨S8x32x32x32, .f32⟩ : BufTy).Contents (Elt F)) : (⟨S_, .f32⟩ : BufTy).Contents (Elt F) :=
  addf (mse q t) (mulf (constant S_ .f32 0x3E800000#32) (mse q t))

section Stretches

variable (V : Valuation τ sig (Elt F))

/-- After the first stretch: the transposed images, -/
theorem a0 : after opsA V (main_v0 : DevRef τ sig) = zT (V (main_arg0 : DevRef τ sig)) := by after_results; rfl
/-- the distances, -/
theorem a15 : after opsA V (main_v15 : DevRef τ sig) = dist (zF (V (main_arg0 : DevRef τ sig))) (V (main_arg1 : DevRef τ sig)) := by
  after_results; rfl
/-- and the arguments as they were. -/
theorem aA0 : after opsA V (main_arg0 : DevRef τ sig) = V (main_arg0 : DevRef τ sig) := by after_results
/-- The codes as they were. -/
theorem aA1 : after opsA V (main_arg1 : DevRef τ sig) = V (main_arg1 : DevRef τ sig) := by after_results

/-- After the search: the columns of the first minima, -/
theorem b16 : after opsB V (main_v16 : DevRef τ sig) = amin (V (main_v15 : DevRef τ sig)) := by after_results; rfl
/-- the transposed images as they were, -/
theorem b0 : after opsB V (main_v0 : DevRef τ sig) = V (main_v0 : DevRef τ sig) := by after_results
/-- the images as they were, -/
theorem bA0 : after opsB V (main_arg0 : DevRef τ sig) = V (main_arg0 : DevRef τ sig) := by after_results
/-- the codes as they were. -/
theorem bA1 : after opsB V (main_arg1 : DevRef τ sig) = V (main_arg1 : DevRef τ sig) := by after_results

/-- After the one-hot stretch: the one-hot rows, -/
theorem c17 : after opsC V (main_v17 : DevRef τ sig) = hot (V (main_v16 : DevRef τ sig)) := by after_results; rfl
/-- the columns as they were, -/
theorem c16 : after opsC V (main_v16 : DevRef τ sig) = V (main_v16 : DevRef τ sig) := by after_results
/-- the transposed images as they were, -/
theorem c0 : after opsC V (main_v0 : DevRef τ sig) = V (main_v0 : DevRef τ sig) := by after_results
/-- the images as they were, -/
theorem cA0 : after opsC V (main_arg0 : DevRef τ sig) = V (main_arg0 : DevRef τ sig) := by after_results
/-- the codes as they were. -/
theorem cA1 : after opsC V (main_arg1 : DevRef τ sig) = V (main_arg1 : DevRef τ sig) := by after_results

/-- After the perplexity's stretch: the perplexity, -/
theorem d27 : after opsD V (main_v27 : DevRef τ sig) = perp (emean (V (main_v17 : DevRef τ sig))) := by after_results; rfl
/-- the one-hot rows as they were, -/
theorem d17 : after opsD V (main_v17 : DevRef τ sig) = V (main_v17 : DevRef τ sig) := by after_results
/-- the columns as they were, -/
theorem d16 : after opsD V (main_v16 : DevRef τ sig) = V (main_v16 : DevRef τ sig) := by after_results
/-- the transposed images as they were, -/
theorem d0 : after opsD V (main_v0 : DevRef τ sig) = V (main_v0 : DevRef τ sig) := by after_results
/-- the images as they were, -/
theorem dA0 : after opsD V (main_arg0 : DevRef τ sig) = V (main_arg0 : DevRef τ sig) := by after_results
/-- the codes as they were. -/
theorem dA1 : after opsD V (main_arg1 : DevRef τ sig) = V (main_arg1 : DevRef τ sig) := by after_results

/-- After the last stretch: the loss, -/
theorem e41 : after opsE V (main_v41 : DevRef τ sig)
    = loss (zq (V (main_v0 : DevRef τ sig)) (V (main_v17 : DevRef τ sig)) (V (main_arg1 : DevRef τ sig))) (V (main_v0 : DevRef τ sig)) := by
  after_results; rfl
/-- the quantised images, -/
theorem e42 : after opsE V (main_v42 : DevRef τ sig)
    = transpose S8x32x32x32 [0, 3, 1, 2] (zq (V (main_v0 : DevRef τ sig)) (V (main_v17 : DevRef τ sig)) (V (main_arg1 : DevRef τ sig)))
      transposes_S8x32x32x32_S8x32x32x32_0_3_1_2 := by
  after_results; rfl
/-- the column of indices, -/
theorem e43 : after opsE V (main_v43 : DevRef τ sig) = broadcastInDim S8192x1 ![0] bcast_S8192_S8192x1_0 (V (main_v16 : DevRef τ sig)) := by
  after_results
/-- the perplexity as it was, -/
theorem e27 : after opsE V (main_v27 : DevRef τ sig) = V (main_v27 : DevRef τ sig) := by after_results
/-- the one-hot rows as they were, -/
theorem e17 : after opsE V (main_v17 : DevRef τ sig) = V (main_v17 : DevRef τ sig) := by after_results
/-- the images as they were, -/
theorem eA0 : after opsE V (main_arg0 : DevRef τ sig) = V (main_arg0 : DevRef τ sig) := by after_results
/-- the codes as they were. -/
theorem eA1 : after opsE V (main_arg1 : DevRef τ sig) = V (main_arg1 : DevRef τ sig) := by after_results

end Stretches

/-- The reference's columns of first minima, over its arguments. -/
def rIdx (x : (⟨S8x32x32x32, .f32⟩ : BufTy).Contents (Elt F)) (e : (⟨S8192x32, .f32⟩ : BufTy).Contents (Elt F)) :
    (⟨S8192, .i32⟩ : BufTy).Contents (Elt F) := amin (dist (zF x) e)

/-- The reference's quantised images with their channels last, over its arguments. -/
def rZq (x : (⟨S8x32x32x32, .f32⟩ : BufTy).Contents (Elt F)) (e : (⟨S8192x32, .f32⟩ : BufTy).Contents (Elt F)) :
    (⟨S8x32x32x32, .f32⟩ : BufTy).Contents (Elt F) := zq (zT x) (hot (rIdx x e)) e

/-- The reference, run from any launch, ends with its five results at the named terms over its arguments and with
    its arguments unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v41)
            = loss (rZq (m ((c.tc : Thread nD τ).loc main_arg0)) (m ((c.tc : Thread nD τ).loc main_arg1))) (zT (m ((c.tc : Thread nD τ).loc main_arg0)))
        ∧ r.2.mem ((c.tc : Thread nD τ).loc main_v42)
            = transpose S8x32x32x32 [0, 3, 1, 2] (rZq (m ((c.tc : Thread nD τ).loc main_arg0)) (m ((c.tc : Thread nD τ).loc main_arg1)))
              transposes_S8x32x32x32_S8x32x32x32_0_3_1_2
        ∧ r.2.mem ((c.tc : Thread nD τ).loc main_v27)
            = perp (emean (hot (rIdx (m ((c.tc : Thread nD τ).loc main_arg0)) (m ((c.tc : Thread nD τ).loc main_arg1)))))
        ∧ r.2.mem ((c.tc : Thread nD τ).loc main_v17)
            = hot (rIdx (m ((c.tc : Thread nD τ).loc main_arg0)) (m ((c.tc : Thread nD τ).loc main_arg1)))
        ∧ r.2.mem ((c.tc : Thread nD τ).loc main_v43)
            = broadcastInDim S8192x1 ![0] bcast_S8192_S8192x1_0 (rIdx (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => by
      refine ⟨(h c main_v41).trans ?_, (h c main_v42).trans ?_, (h c main_v27).trans ?_, (h c main_v17).trans ?_,
        (h c main_v43).trans ?_, (h c main_arg0).trans ?_, (h c main_arg1).trans ?_⟩
      · rw [after_app, after_app, after_app, after_app, e41, d0, d17, dA1, c0, c17, cA1, b0, b16, bA1, a0, a15, aA1]; rfl
      · rw [after_app, after_app, after_app, after_app, e42, d0, d17, dA1, c0, c17, cA1, b0, b16, bA1, a0, a15, aA1]; rfl
      · rw [after_app, after_app, after_app, after_app, e27, d27, c17, b16, a15]; rfl
      · rw [after_app, after_app, after_app, after_app, e17, d17, c17, b16, a15]; rfl
      · rw [after_app, after_app, after_app, after_app, e43, d16, c16, b16, a15]; rfl
      · rw [after_app, after_app, after_app, after_app, eA0, dA0, cA0, bA0, aA0]
      · rw [after_app, after_app, after_app, after_app, eA1, dA1, cA1, bA1, aA1])
    (run_seq scopedRefs_eq scopedSems_eq defs main (fun _ => ops) main_eq (fun _ => ops_sub) m ρ)

end Cert.Proof.Ref

namespace Cert.Proof

open Idealize.ShloMosaic Idealize.SL.Sem

/-- The reference, run from any launch, ends with its arguments unchanged and every counter at zero. -/
theorem frame_r : Cert.quiescent_ReferenceIdeal := fun m ρ _ =>
  (θ_run Cert.ReferenceIdeal.defs _ _).mono
    (fun r h => ⟨fun c => (h c).2.2.2.2.2, sem_eq_zero_of_no_sems (by decide) r.2⟩) (Ref.run m ρ)

end Cert.Proof
-- ==== Proof.Argmin.lean ====
/- The first minimum of a sequence of extended reals: the search by chunks of 512, each chunk by its minimum and the
   least position that attains it, two halves then compared; and the search by a fold over (value, position) pairs. -/
module

public import Idealize.ShloMosaic.Lib.SortNet.Extract
public import Idealize.ShloMosaic.PureOps.Reduce
public import Idealize.ShloMosaic.PureOps.Ideal.Laws
public import Idealize.ShloMosaic.Lib.Pointwise

@[expose] public section

namespace Cert.Proof.Argmin

open Idealize.ShloMosaic

/-- `I` is the word of the first position below `n` at which `f` is least. -/
def IsFirst (f : ℕ → EReal) (n : ℕ) (I : BitVec 32) : Prop :=
  ∃ k, k < n ∧ I = BitVec.ofNat 32 k ∧ (∀ j, j < n → f k ≤ f j) ∧ ∀ j, j < k → f k < f j

/-- The first position is unique. -/
theorem IsFirst.unique {f : ℕ → EReal} {n : ℕ} {I J : BitVec 32} (h : IsFirst f n I) (h' : IsFirst f n J) : I = J := by
  obtain ⟨k, hk, rfl, a, b⟩ := h
  obtain ⟨l, hl, rfl, c, d⟩ := h'
  rcases lt_trichotomy k l with e | e | e
  · exact absurd (d k e) (not_lt.mpr (a l hl))
  · rw [e]
  · exact absurd (b l e) (not_lt.mpr (c k hk))

/-- What the search holds after the positions from `s` below `e`: nothing found (all are `⊤`), or the least value and
    the first position that attains it. -/
def Found (f : ℕ → EReal) (s e : ℕ) (M : EReal) (I : BitVec 32) : Prop :=
  (M = ⊤ ∧ I = 0#32 ∧ ∀ k, s ≤ k → k < e → f k = ⊤) ∨
  ∃ k, s ≤ k ∧ k < e ∧ M = f k ∧ f k < ⊤ ∧ I = BitVec.ofNat 32 k ∧ (∀ j, s ≤ j → j < e → f k ≤ f j) ∧
    ∀ j, s ≤ j → j < k → f k < f j

/-- Before any position nothing is found. -/
theorem Found.start (f : ℕ → EReal) (s : ℕ) : Found f s s ⊤ 0#32 :=
  .inl ⟨rfl, rfl, fun _ h h' => absurd h' (not_lt.mpr h)⟩

/-- A natural below 2 ^ 31 is its word's signed reading. -/
theorem toInt_nat {k : ℕ} (h : k < 2 ^ 31) : (BitVec.ofNat 32 k).toInt = (k : ℤ) := by
  rw [BitVec.toInt_eq_toNat_cond, BitVec.toNat_ofNat, Nat.mod_eq_of_lt (by omega)]
  rw [if_pos (by omega)]

/-- A fold of the signed minimum is at most its start and every word, and is one of them. -/
theorem fold_minsi {ι : Type*} [DecidableEq ι] (s : Finset ι) (g : ι → BitVec 32) (z : BitVec 32) :
    (s.fold IntOp.minsi z g).toInt ≤ z.toInt ∧ (∀ i ∈ s, (s.fold IntOp.minsi z g).toInt ≤ (g i).toInt) ∧
      (s.fold IntOp.minsi z g = z ∨ ∃ i ∈ s, s.fold IntOp.minsi z g = g i) := by
  induction s using Finset.induction_on with
  | empty => exact ⟨le_refl _, fun _ h => absurd h (Finset.notMem_empty _), .inl rfl⟩
  | insert a s ha ih =>
    rw [Finset.fold_insert ha]
    obtain ⟨h1, h2, h3⟩ := ih
    have e := SortNet.toInt_minsi (g a) (s.fold IntOp.minsi z g)
    refine ⟨by rw [e]; exact le_trans (min_le_right _ _) h1, fun i hi => ?_, ?_⟩
    · rw [e]
      rcases Finset.mem_insert.mp hi with rfl | hi
      · exact min_le_left _ _
      · exact le_trans (min_le_right _ _) (h2 i hi)
    · have : IntOp.minsi (g a) (s.fold IntOp.minsi z g) = g a ∨
          IntOp.minsi (g a) (s.fold IntOp.minsi z g) = s.fold IntOp.minsi z g := by
        show (if _ then _ else _) = _ ∨ (if _ then _ else _) = _
        split
        · exact .inl rfl
        · exact .inr rfl
      rcases this with h | h
      · exact .inr ⟨a, Finset.mem_insert_self _ _, h⟩
      · rcases h3 with h3 | ⟨i, hi, h3⟩
        · exact .inl (h.trans h3)
        · exact .inr ⟨i, Finset.mem_insert_of_mem hi, h.trans h3⟩

/-- A fold of the minimum from `⊤` is at most every value, and over a nonempty range is one of them. -/
theorem fold_min {n : ℕ} (hn : 0 < n) (g : Fin n → EReal) :
    (∀ l, Finset.univ.fold min ⊤ g ≤ g l) ∧ ∃ l, Finset.univ.fold min ⊤ g = g l := by
  have e : Finset.univ.fold min ⊤ g = Finset.univ.inf g := rfl
  rw [e]
  refine ⟨fun l => Finset.inf_le (Finset.mem_univ l), ?_⟩
  haveI : Nonempty (Fin n) := ⟨⟨0, hn⟩⟩
  obtain ⟨l, -, hl⟩ := Finset.exists_mem_eq_inf Finset.univ Finset.univ_nonempty g
  exact ⟨l, hl⟩

/-- A chunk's minimum and the least position attaining it are the chunk's first minimum. -/
theorem chunk (f : ℕ → EReal) (o : ℕ) (ho : o + 512 ≤ 8192) (mc : EReal) (ic : BitVec 32)
    (hm : mc = Finset.univ.fold min ⊤ fun l : Fin 512 => f (o + l.val))
    (hi : ic = Finset.univ.fold IntOp.minsi 2147483647#32
      fun l : Fin 512 => if f (o + l.val) = mc then BitVec.ofNat 32 (o + l.val) else 1073741824#32) :
    ∃ k, o ≤ k ∧ k < o + 512 ∧ mc = f k ∧ ic = BitVec.ofNat 32 k ∧ (∀ j, o ≤ j → j < o + 512 → f k ≤ f j) ∧
      ∀ j, o ≤ j → j < k → f k < f j := by
  obtain ⟨a, l₀, hl₀⟩ := fold_min (n := 512) (by omega) (fun l : Fin 512 => f (o + l.val))
  rw [← hm] at a hl₀
  have ex : ∃ k, o ≤ k ∧ k < o + 512 ∧ f k = mc := ⟨o + l₀.val, by omega, by omega, hl₀.symm⟩
  classical
  have hk := Nat.find_spec ex
  set k := Nat.find ex with hkdef
  have hmin : ∀ j, o ≤ j → j < k → f j ≠ mc := fun j h1 h2 h3 => Nat.find_min ex h2 ⟨h1, by omega, h3⟩
  have hle : ∀ j, o ≤ j → j < o + 512 → mc ≤ f j := fun j h1 h2 => by
    have := a ⟨j - o, by omega⟩
    rwa [show o + (j - o) = j by omega] at this
  refine ⟨k, hk.1, hk.2.1, hk.2.2.symm, ?_, fun j h1 h2 => hk.2.2 ▸ hle j h1 h2, fun j h1 h2 => ?_⟩
  · obtain ⟨b1, b2, b3⟩ := fold_minsi Finset.univ
      (fun l : Fin 512 => if f (o + l.val) = mc then BitVec.ofNat 32 (o + l.val) else 1073741824#32) 2147483647#32
    rw [← hi] at b1 b2 b3
    have hkk := b2 ⟨k - o, by omega⟩ (Finset.mem_univ _)
    simp only [show o + (k - o) = k by omega, hk.2.2, if_true] at hkk
    rw [toInt_nat (by omega)] at hkk
    rcases b3 with b3 | ⟨l, -, b3⟩
    · rw [b3] at hkk
      have : (2147483647#32).toInt = 2147483647 := by decide
      omega
    · split at b3
      · rename_i hl
        have h3 : k ≤ o + l.val := by
          by_contra hc
          exact hmin (o + l.val) (by omega) (by omega) hl
        rw [b3, toInt_nat (by omega)] at hkk
        rw [b3]
        congr 1
        omega
      · rw [b3] at hkk
        have : (1073741824#32).toInt = 1073741824 := by decide
        omega
  · rw [hk.2.2]
    exact lt_of_le_of_ne (hle j h1 (by omega)) (Ne.symm (hmin j h1 h2))

/-- One chunk's step of the search. -/
theorem Found.step {f : ℕ → EReal} {s o : ℕ} {M : EReal} {I : BitVec 32} (hso : s ≤ o) (h : Found f s o M I)
    (ho : o + 512 ≤ 8192) (mc : EReal) (ic : BitVec 32)
    (hm : mc = Finset.univ.fold min ⊤ fun l : Fin 512 => f (o + l.val))
    (hi : ic = Finset.univ.fold IntOp.minsi 2147483647#32
      fun l : Fin 512 => if f (o + l.val) = mc then BitVec.ofNat 32 (o + l.val) else 1073741824#32) :
    Found f s (o + 512) (if mc < M then mc else M) (if mc < M then ic else I) := by
  obtain ⟨k, k1, k2, k3, k4, k5, k6⟩ := chunk f o ho mc ic hm hi
  by_cases hlt : mc < M
  · rw [if_pos hlt, if_pos hlt]
    have hM : ∀ j, s ≤ j → j < o → f k < f j := by
      intro j j1 j2
      rw [← k3]
      rcases h with ⟨rfl, -, h⟩ | ⟨i, i1, i2, i3, i4, i5, i6, i7⟩
      · rw [h j j1 j2]; exact hlt
      · exact lt_of_lt_of_le (i3 ▸ hlt) (i6 j j1 j2)
    refine .inr ⟨k, by omega, k2, k3, k3 ▸ lt_of_lt_of_le hlt le_top, k4, fun j j1 j2 => ?_, fun j j1 j2 => ?_⟩
    · rcases lt_or_ge j o with c | c
      · exact le_of_lt (hM j j1 c)
      · exact k5 j c j2
    · rcases lt_or_ge j o with c | c
      · exact hM j j1 c
      · exact k6 j c j2
  · rw [if_neg hlt, if_neg hlt]
    have hle := not_lt.mp hlt
    rcases h with ⟨rfl, hI, h⟩ | ⟨i, i1, i2, i3, i4, i5, i6, i7⟩
    · refine .inl ⟨rfl, hI, fun j j1 j2 => ?_⟩
      rcases lt_or_ge j o with c | c
      · exact h j j1 c
      · exact top_le_iff.mp (le_trans (k3 ▸ hle) (k5 j c j2))
    · refine .inr ⟨i, i1, by omega, i3, i4, i5, fun j j1 j2 => ?_, i7⟩
      rcases lt_or_ge j o with c | c
      · exact i6 j j1 c
      · exact le_trans (i3 ▸ k3 ▸ hle) (k5 j c j2)

/-- The two halves compared. -/
theorem combine {f : ℕ → EReal} {Ma Mb : EReal} {Ia Ib : BitVec 32} (ha : Found f 0 4096 Ma Ia)
    (hb : Found f 4096 8192 Mb Ib) :
    IsFirst f 8192 (if Ma < Mb ∨ (Ma = Mb ∧ Ia.toInt < Ib.toInt) then Ia else Ib) := by
  rcases ha with ⟨rfl, rfl, a⟩ | ⟨i, -, i2, rfl, i4, rfl, i6, i7⟩
  · rw [if_neg]
    · rcases hb with ⟨rfl, rfl, b⟩ | ⟨j, j1, j2, rfl, j4, rfl, j6, j7⟩
      · have all : ∀ k, k < 8192 → f k = ⊤ := fun k hk => by
          rcases lt_or_ge k 4096 with c | c
          · exact a k (Nat.zero_le _) c
          · exact b k c hk
        refine ⟨0, by omega, rfl, fun j hj => by rw [all 0 (by omega), all j hj], fun j hj => absurd hj (Nat.not_lt_zero _)⟩
      · refine ⟨j, j2, rfl, fun k hk => ?_, fun k hk => ?_⟩
        · rcases lt_or_ge k 4096 with c | c
          · rw [a k (Nat.zero_le _) c]; exact le_top
          · exact j6 k c hk
        · rcases lt_or_ge k 4096 with c | c
          · rw [a k (Nat.zero_le _) c]; exact j4
          · exact j7 k c hk
    · rintro (h | ⟨h, h'⟩)
      · exact absurd h (not_lt.mpr le_top)
      · rcases hb with ⟨-, rfl, b⟩ | ⟨j, j1, j2, rfl, j4, rfl, j6, j7⟩
        · exact lt_irrefl _ h'
        · exact absurd h (ne_of_gt j4)
  · rcases hb with ⟨rfl, rfl, b⟩ | ⟨j, j1, j2, rfl, j4, rfl, j6, j7⟩
    · rw [if_pos (.inl i4)]
      refine ⟨i, by omega, rfl, fun k hk => ?_, fun k hk => i7 k (Nat.zero_le _) hk⟩
      rcases lt_or_ge k 4096 with c | c
      · exact i6 k (Nat.zero_le _) c
      · rw [b k c hk]; exact le_top
    · by_cases hle : f i ≤ f j
      · rw [if_pos]
        · refine ⟨i, by omega, rfl, fun k hk => ?_, fun k hk => i7 k (Nat.zero_le _) hk⟩
          rcases lt_or_ge k 4096 with c | c
          · exact i6 k (Nat.zero_le _) c
          · exact le_trans hle (j6 k c hk)
        · rcases lt_or_eq_of_le hle with c | c
          · exact .inl c
          · refine .inr ⟨c, ?_⟩
            rw [toInt_nat (by omega), toInt_nat (by omega)]
            omega
      · have hlt := not_le.mp hle
        rw [if_neg]
        · refine ⟨j, j2, rfl, fun k hk => ?_, fun k hk => ?_⟩
          · rcases lt_or_ge k 4096 with c | c
            · exact le_of_lt (lt_of_lt_of_le hlt (i6 k (Nat.zero_le _) c))
            · exact j6 k c hk
          · rcases lt_or_ge k 4096 with c | c
            · exact lt_of_lt_of_le hlt (i6 k (Nat.zero_le _) c)
            · exact j7 k c hk
        · rintro (h | ⟨h, -⟩)
          · exact lt_asymm h hlt
          · exact ne_of_lt hlt h.symm

/-- The lesser of two (value, position) pairs: by value, then by position. -/
noncomputable def pick (a b : EReal × BitVec 32) : EReal × BitVec 32 :=
  open Classical in if a.1 < b.1 ∨ (a.1 = b.1 ∧ a.2.toInt < b.2.toInt) then a else b

/-- `p` is no later than `q`: a smaller value, or the same value at no later a position. -/
def NoLater (p q : EReal × BitVec 32) : Prop := p.1 < q.1 ∨ (p.1 = q.1 ∧ p.2.toInt ≤ q.2.toInt)

/-- The order is transitive. -/
theorem NoLater.trans {p q r : EReal × BitVec 32} (h : NoLater p q) (h' : NoLater q r) : NoLater p r := by
  rcases h with h | ⟨h, k⟩ <;> rcases h' with h' | ⟨h', k'⟩
  · exact .inl (lt_trans h h')
  · exact .inl (h' ▸ h)
  · exact .inl (h ▸ h')
  · exact .inr ⟨h.trans h', le_trans k k'⟩

/-- The lesser pair is no later than either, and is one of them. -/
theorem pick_spec (a b : EReal × BitVec 32) :
    NoLater (pick a b) a ∧ NoLater (pick a b) b ∧ (pick a b = a ∨ pick a b = b) := by
  unfold pick
  split
  · rename_i h
    refine ⟨.inr ⟨rfl, le_refl _⟩, ?_, .inl rfl⟩
    rcases h with h | ⟨h, k⟩
    · exact .inl h
    · exact .inr ⟨h, le_of_lt k⟩
  · rename_i h
    refine ⟨?_, .inr ⟨rfl, le_refl _⟩, .inr rfl⟩
    have h1 : b.1 ≤ a.1 := not_lt.mp fun c => h (.inl c)
    rcases lt_or_eq_of_le h1 with c | c
    · exact .inl c
    · exact .inr ⟨c, not_lt.mp fun d => h (.inr ⟨c.symm, d⟩)⟩

/-- A fold of `pick` is no later than its start and every pair met, and is one of them. -/
theorem foldl_pick (l : List (EReal × BitVec 32)) (z : EReal × BitVec 32) :
    NoLater (l.foldl pick z) z ∧ (∀ p ∈ l, NoLater (l.foldl pick z) p) ∧ (l.foldl pick z = z ∨ l.foldl pick z ∈ l) := by
  induction l generalizing z with
  | nil => exact ⟨.inr ⟨rfl, le_refl _⟩, fun _ h => absurd h List.not_mem_nil, .inl rfl⟩
  | cons a l ih =>
    rw [List.foldl_cons]
    obtain ⟨h1, h2, h3⟩ := ih (pick z a)
    obtain ⟨p1, p2, p3⟩ := pick_spec z a
    refine ⟨h1.trans p1, fun q hq => ?_, ?_⟩
    · rcases List.mem_cons.mp hq with rfl | hq
      · exact h1.trans p2
      · exact h2 q hq
    · rcases h3 with h3 | h3
      · rw [h3]
        rcases p3 with p3 | p3
        · exact .inl p3
        · rw [p3]; exact .inr List.mem_cons_self
      · exact .inr (List.mem_cons_of_mem _ h3)

/-- Folded from (`⊤`, 0) over the pairs of a sequence, `pick` finds the first minimum. -/
theorem foldl_first (f : ℕ → EReal) (n : ℕ) (hn : 0 < n) (hn' : n ≤ 2 ^ 31) (l : List (EReal × BitVec 32))
    (hl : ∀ p, p ∈ l ↔ ∃ k, k < n ∧ p = (f k, BitVec.ofNat 32 k)) : IsFirst f n (l.foldl pick (⊤, 0#32)).2 := by
  obtain ⟨-, h2, h3⟩ := foldl_pick l (⊤, 0#32)
  have key : ∃ k, k < n ∧ l.foldl pick (⊤, 0#32) = (f k, BitVec.ofNat 32 k) := by
    rcases h3 with h3 | h3
    · refine ⟨0, hn, ?_⟩
      have := h2 (f 0, BitVec.ofNat 32 0) ((hl _).mpr ⟨0, hn, rfl⟩)
      rw [h3] at this ⊢
      rcases this with c | ⟨c, -⟩
      · exact absurd c (not_lt.mpr le_top)
      · exact Prod.ext c rfl
    · exact (hl _).mp h3
  obtain ⟨k, hk, e⟩ := key
  rw [e] at h2 ⊢
  refine ⟨k, hk, rfl, fun j hj => ?_, fun j hj => ?_⟩
  · rcases h2 _ ((hl _).mpr ⟨j, hj, rfl⟩) with c | ⟨c, -⟩
    · exact le_of_lt c
    · exact le_of_eq c
  · rcases h2 _ ((hl _).mpr ⟨j, by omega, rfl⟩) with c | ⟨-, c⟩
    · exact c
    · simp only [toInt_nat (show k < 2 ^ 31 by omega), toInt_nat (show j < 2 ^ 31 by omega)] at c
      omega

end Cert.Proof.Argmin
-- ==== Proof.Block.lean ====
module

public import proofs.«01_k».proof.Proof.Gen.KernelIdeal.Skeleton
public import proofs.«01_k».proof.Proof.Argmin
public import Idealize.ShloMosaic.Lib.Claim
public import Idealize.ShloMosaic.Lib.Pipeline.ValueKit
public import Idealize.ShloMosaic.Lib.Pointwise

@[expose] public section

set_option maxRecDepth 16384

noncomputable section

/-! The index block of one grid point: the search over sixteen chunks of codes, as one function of the point's inputs. -/

namespace Cert.Proof.Blk

open Idealize.ShloMosaic Idealize.ShloMosaic.TcCoe Idealize.SL.Sem
open Cert.KernelIdeal Cert.KernelIdeal.Gen
open Cert.Proof.Argmin (Found IsFirst)

/-- The chunk of the doubled codes that starts at column `off`. -/
abbrev ch (off : ℕ) (inb : ∀ a, (![0, off] : Fin 2 → ℕ) a + S32x512.size a ≤ S32x8192.size a) (x : Vec Ideal S32x8192 .bf16) :
    Vec Ideal S32x512 .bf16 :=
  View.ld (Val := Elt Ideal) (S := S32x8192) (e' := .bf16) x (Rect.unit ![0, off] ![32, 512] inb)

/-- The distances of the point's rows to the codes of one chunk. -/
def dch (off : ℕ) (hs : S1x8192.Slices ![0, off] S1x512) (v2 : FVec Ideal S256x32 .bf16) (v18 : FVec Ideal S256x1 .f32)
    (v36 : FVec Ideal S1x8192 .f32) (x : Vec Ideal S32x512 .bf16) : FVec Ideal S256x512 .f32 :=
  subf (addf (broadcastTo S256x512 v18 broadcasts_S256x1_S256x512)
      (broadcastTo S256x512 (extractStridedSlice S1x512 ![0, off] v36 hs) broadcasts_S1x512_S256x512))
    (matmul (φ₂ := .bf16) dot_S256x32_S32x512_S256x512_1_0_0_1_n_n none v2 (shapeCast S32x512 x shapeCasts_S32x512_S32x512)
      (constant S256x512 .f32 0x00000000#32))

/-- The least distance of each row in one chunk. -/
def mch (d : FVec Ideal S256x512 .f32) : FVec Ideal S256x1 .f32 :=
  shapeCast S256x1 (multiReduction .minimumf [1] S256 d 0x7F800000#32 reduces_S256x512_S256 (.inl rfl) rfl) shapeCasts_S256_S256x1

/-- The first position of the least distance of each row in one chunk. -/
def ich (off : BitVec 32) (d : FVec Ideal S256x512 .f32) : IVec S256x1 32 :=
  shapeCast S256x1 (multiReductionI .minsi [1] S256
    (select (cmpf .oeq d (broadcastTo S256x512 (mch d) broadcasts_S256x1_S256x512))
      (addi (iota .tc S256x512 32 [1] iota_S256x512_d1_w32) (broadcast S256x512 off)) (broadcast S256x512 1073741824#32))
    2147483647#32 reduces_S256x512_S256 rfl) shapeCasts_S256_S256x1

/-- The least distance so far after one more chunk. -/
def stepM (d : FVec Ideal S256x512 .f32) (M : FVec Ideal S256x1 .f32) : FVec Ideal S256x1 .f32 :=
  select (cmpf .olt (mch d) M) (mch d) M

/-- The position so far after one more chunk. -/
def stepI (off : BitVec 32) (d : FVec Ideal S256x512 .f32) (M : FVec Ideal S256x1 .f32) (I : IVec S256x1 32) : IVec S256x1 32 :=
  select (cmpf .olt (mch d) M) (ich off d) I

/-- The choice between the two halves. -/
def comb (Ma : FVec Ideal S256x1 .f32) (Ia : IVec S256x1 32) (Mb : FVec Ideal S256x1 .f32) (Ib : IVec S256x1 32) : IVec S256x1 32 :=
  select (ori (cmpf .olt (extf .f32 (truncf .bf16 Ma bitsLt_bf16_f32) bitsLt_bf16_f32) Mb)
    (andi (cmpf .oeq (extf .f32 (truncf .bf16 Ma bitsLt_bf16_f32) bitsLt_bf16_f32) Mb) (cmpi .slt Ia Ib))) Ia Ib

variable (z : Vec Ideal S256x32 .f32) (e : Vec Ideal S32x8192 .f32) (x : Vec Ideal S32x8192 .bf16)

/-- The distances to the codes from 0. -/
def d0 : FVec Ideal S256x512 .f32 :=
  dch 0 slices_S1x8192_o0_0_S1x512 (k0_pay5 z) (k0_pay6 z) (k0_pay7 e) (ch 0 inb_S32x8192_S32x512_0_0 x)
/-- The least distance in the half up to that chunk. -/
def M0 : FVec Ideal S256x1 .f32 := stepM (d0 z e x) (broadcast S256x1 (Scalar.ofBits .f32 0x7F800000#32))
/-- Its position. -/
def I0 : IVec S256x1 32 := stepI 0#32 (d0 z e x) (broadcast S256x1 (Scalar.ofBits .f32 0x7F800000#32)) (broadcast S256x1 0#32)
/-- The distances to the codes from 512. -/
def d1 : FVec Ideal S256x512 .f32 :=
  dch 512 slices_S1x8192_o0_512_S1x512 (k0_pay5 z) (k0_pay6 z) (k0_pay7 e) (ch 512 inb_S32x8192_S32x512_0_512 x)
/-- The least distance in the half up to that chunk. -/
def M1 : FVec Ideal S256x1 .f32 := stepM (d1 z e x) (M0 z e x)
/-- Its position. -/
def I1 : IVec S256x1 32 := stepI 512#32 (d1 z e x) (M0 z e x) (I0 z e x)
/-- The distances to the codes from 1024. -/
def d2 : FVec Ideal S256x512 .f32 :=
  dch 1024 slices_S1x8192_o0_1024_S1x512 (k0_pay5 z) (k0_pay6 z) (k0_pay7 e) (ch 1024 inb_S32x8192_S32x512_0_1024 x)
/-- The least distance in the half up to that chunk. -/
def M2 : FVec Ideal S256x1 .f32 := stepM (d2 z e x) (M1 z e x)
/-- Its position. -/
def I2 : IVec S256x1 32 := stepI 1024#32 (d2 z e x) (M1 z e x) (I1 z e x)
/-- The distances to the codes from 1536. -/
def d3 : FVec Ideal S256x512 .f32 :=
  dch 1536 slices_S1x8192_o0_1536_S1x512 (k0_pay5 z) (k0_pay6 z) (k0_pay7 e) (ch 1536 inb_S32x8192_S32x512_0_1536 x)
/-- The least distance in the half up to that chunk. -/
def M3 : FVec Ideal S256x1 .f32 := stepM (d3 z e x) (M2 z e x)
/-- Its position. -/
def I3 : IVec S256x1 32 := stepI 1536#32 (d3 z e x) (M2 z e x) (I2 z e x)
/-- The distances to the codes from 2048. -/
def d4 : FVec Ideal S256x512 .f32 :=
  dch 2048 slices_S1x8192_o0_2048_S1x512 (k0_pay5 z) (k0_pay6 z) (k0_pay7 e) (ch 2048 inb_S32x8192_S32x512_0_2048 x)
/-- The least distance in the half up to that chunk. -/
def M4 : FVec Ideal S256x1 .f32 := stepM (d4 z e x) (M3 z e x)
/-- Its position. -/
def I4 : IVec S256x1 32 := stepI 2048#32 (d4 z e x) (M3 z e x) (I3 z e x)
/-- The distances to the codes from 2560. -/
def d5 : FVec Ideal S256x512 .f32 :=
  dch 2560 slices_S1x8192_o0_2560_S1x512 (k0_pay5 z) (k0_pay6 z) (k0_pay7 e) (ch 2560 inb_S32x8192_S32x512_0_2560 x)
/-- The least distance in the half up to that chunk. -/
def M5 : FVec Ideal S256x1 .f32 := stepM (d5 z e x) (M4 z e x)
/-- Its position. -/
def I5 : IVec S256x1 32 := stepI 2560#32 (d5 z e x) (M4 z e x) (I4 z e x)
/-- The distances to the codes from 3072. -/
def d6 : FVec Ideal S256x512 .f32 :=
  dch 3072 slices_S1x8192_o0_3072_S1x512 (k0_pay5 z) (k0_pay6 z) (k0_pay7 e) (ch 3072 inb_S32x8192_S32x512_0_3072 x)
/-- The least distance in the half up to that chunk. -/
def M6 : FVec Ideal S256x1 .f32 := stepM (d6 z e x) (M5 z e x)
/-- Its position. -/
def I6 : IVec S256x1 32 := stepI 3072#32 (d6 z e x) (M5 z e x) (I5 z e x)
/-- The distances to the codes from 3584. -/
def d7 : FVec Ideal S256x512 .f32 :=
  dch 3584 slices_S1x8192_o0_3584_S1x512 (k0_pay5 z) (k0_pay6 z) (k0_pay7 e) (ch 3584 inb_S32x8192_S32x512_0_3584 x)
/-- The least distance in the half up to that chunk. -/
def M7 : FVec Ideal S256x1 .f32 := stepM (d7 z e x) (M6 z e x)
/-- Its position. -/
def I7 : IVec S256x1 32 := stepI 3584#32 (d7 z e x) (M6 z e x) (I6 z e x)
/-- The distances to the codes from 4096. -/
def d8 : FVec Ideal S256x512 .f32 :=
  dch 4096 slices_S1x8192_o0_4096_S1x512 (k0_pay5 z) (k0_pay6 z) (k0_pay7 e) (ch 4096 inb_S32x8192_S32x512_0_4096 x)
/-- The least distance in the half up to that chunk. -/
def M8 : FVec Ideal S256x1 .f32 := stepM (d8 z e x) (broadcast S256x1 (Scalar.ofBits .f32 0x7F800000#32))
/-- Its position. -/
def I8 : IVec S256x1 32 := stepI 4096#32 (d8 z e x) (broadcast S256x1 (Scalar.ofBits .f32 0x7F800000#32)) (broadcast S256x1 0#32)
/-- The distances to the codes from 4608. -/
def d9 : FVec Ideal S256x512 .f32 :=
  dch 4608 slices_S1x8192_o0_4608_S1x512 (k0_pay5 z) (k0_pay6 z) (k0_pay7 e) (ch 4608 inb_S32x8192_S32x512_0_4608 x)
/-- The least distance in the half up to that chunk. -/
def M9 : FVec Ideal S256x1 .f32 := stepM (d9 z e x) (M8 z e x)
/-- Its position. -/
def I9 : IVec S256x1 32 := stepI 4608#32 (d9 z e x) (M8 z e x) (I8 z e x)
/-- The distances to the codes from 5120. -/
def d10 : FVec Ideal S256x512 .f32 :=
  dch 5120 slices_S1x8192_o0_5120_S1x512 (k0_pay5 z) (k0_pay6 z) (k0_pay7 e) (ch 5120 inb_S32x8192_S32x512_0_5120 x)
/-- The least distance in the half up to that chunk. -/
def M10 : FVec Ideal S256x1 .f32 := stepM (d10 z e x) (M9 z e x)
/-- Its position. -/
def I10 : IVec S256x1 32 := stepI 5120#32 (d10 z e x) (M9 z e x) (I9 z e x)
/-- The distances to the codes from 5632. -/
def d11 : FVec Ideal S256x512 .f32 :=
  dch 5632 slices_S1x8192_o0_5632_S1x512 (k0_pay5 z) (k0_pay6 z) (k0_pay7 e) (ch 5632 inb_S32x8192_S32x512_0_5632 x)
/-- The least distance in the half up to that chunk. -/
def M11 : FVec Ideal S256x1 .f32 := stepM (d11 z e x) (M10 z e x)
/-- Its position. -/
def I11 : IVec S256x1 32 := stepI 5632#32 (d11 z e x) (M10 z e x) (I10 z e x)
/-- The distances to the codes from 6144. -/
def d12 : FVec Ideal S256x512 .f32 :=
  dch 6144 slices_S1x8192_o0_6144_S1x512 (k0_pay5 z) (k0_pay6 z) (k0_pay7 e) (ch 6144 inb_S32x8192_S32x512_0_6144 x)
/-- The least distance in the half up to that chunk. -/
def M12 : FVec Ideal S256x1 .f32 := stepM (d12 z e x) (M11 z e x)
/-- Its position. -/
def I12 : IVec S256x1 32 := stepI 6144#32 (d12 z e x) (M11 z e x) (I11 z e x)
/-- The distances to the codes from 6656. -/
def d13 : FVec Ideal S256x512 .f32 :=
  dch 6656 slices_S1x8192_o0_6656_S1x512 (k0_pay5 z) (k0_pay6 z) (k0_pay7 e) (ch 6656 inb_S32x8192_S32x512_0_6656 x)
/-- The least distance in the half up to that chunk. -/
def M13 : FVec Ideal S256x1 .f32 := stepM (d13 z e x) (M12 z e x)
/-- Its position. -/
def I13 : IVec S256x1 32 := stepI 6656#32 (d13 z e x) (M12 z e x) (I12 z e x)
/-- The distances to the codes from 7168. -/
def d14 : FVec Ideal S256x512 .f32 :=
  dch 7168 slices_S1x8192_o0_7168_S1x512 (k0_pay5 z) (k0_pay6 z) (k0_pay7 e) (ch 7168 inb_S32x8192_S32x512_0_7168 x)
/-- The least distance in the half up to that chunk. -/
def M14 : FVec Ideal S256x1 .f32 := stepM (d14 z e x) (M13 z e x)
/-- Its position. -/
def I14 : IVec S256x1 32 := stepI 7168#32 (d14 z e x) (M13 z e x) (I13 z e x)
/-- The distances to the codes from 7680. -/
def d15 : FVec Ideal S256x512 .f32 :=
  dch 7680 slices_S1x8192_o0_7680_S1x512 (k0_pay5 z) (k0_pay6 z) (k0_pay7 e) (ch 7680 inb_S32x8192_S32x512_0_7680 x)
/-- The least distance in the half up to that chunk. -/
def M15 : FVec Ideal S256x1 .f32 := stepM (d15 z e x) (M14 z e x)
/-- Its position. -/
def I15 : IVec S256x1 32 := stepI 7680#32 (d15 z e x) (M14 z e x) (I14 z e x)

/-- The index block of a grid point. -/
def best : IVec S256x1 32 := comb (M7 z e x) (I7 z e x) (M15 z e x) (I15 z e x)

/-- A chunk read at an index. -/
theorem ch_at (off : ℕ) (inb : ∀ a, (![0, off] : Fin 2 → ℕ) a + S32x512.size a ≤ S32x8192.size a) (j : Fin 32) (l : Fin 512)
    (h : off + l.val < 8192) : ch off inb x (ix2 j l) = x (ix2 j ⟨off + l.val, h⟩) := by
  unfold ch
  pointwise

/-- A distance read at an index. -/
theorem dch_at (off : ℕ) (hs : S1x8192.Slices ![0, off] S1x512) (v2 : FVec Ideal S256x32 .bf16) (v18 : FVec Ideal S256x1 .f32)
    (v36 : FVec Ideal S1x8192 .f32) (y : Vec Ideal S32x512 .bf16) (r : Fin 256) (l : Fin 512) (h : off + l.val < 8192) :
    dch off hs v2 v18 v36 y (ix2 r l)
      = (v18 (ix2 r 0) + v36 (ix2 0 ⟨off + l.val, h⟩)) - ∑ j : Fin 32, v2 (ix2 r j) * y (ix2 j l) := by
  pointwise [dch]

/-- One step of the search at a row. -/
theorem step_found (off : ℕ) (ho : off + 512 ≤ 8192) (s : ℕ) (hso : s ≤ off) (d : FVec Ideal S256x512 .f32) (M : FVec Ideal S256x1 .f32)
    (I : IVec S256x1 32) (r : Fin 256) (f : ℕ → EReal) (hd : ∀ l : Fin 512, d (ix2 r l) = f (off + l.val))
    (h : Found f s off (M (ix2 r 0)) (I (ix2 r 0))) :
    Found f s (off + 512) (stepM d M (ix2 r 0)) (stepI (BitVec.ofNat 32 off) d M I (ix2 r 0)) := by
  have hm : mch d (ix2 r 0) = Finset.univ.fold min ⊤ fun l : Fin 512 => f (off + l.val) := by
    pointwise [mch, hd]
    rw [show Ideal.ofBits .f32 0x7F800000#32 = ⊤ by simp [Ideal.ofBits, Ideal.ieee]]
  have hi : ich (BitVec.ofNat 32 off) d (ix2 r 0) = Finset.univ.fold IntOp.minsi 2147483647#32
      fun l : Fin 512 => if f (off + l.val) = mch d (ix2 r 0) then BitVec.ofNat 32 (off + l.val) else 1073741824#32 := by
    pointwise [ich, hd]
    refine Finset.fold_congr fun l _ => ?_
    have ea : IntOp.addi (BitVec.ofNat 32 l.val) (BitVec.ofNat 32 off) = BitVec.ofNat 32 (off + l.val) := by
      rw [Nat.add_comm off, BitVec.ofNat_add, IntOp.addi]
    rw [ea]
  have := h.step hso ho _ _ hm hi
  pointwise [stepM, stepI]
  exact this

/-- The choice between the halves at a row. -/
theorem comb_at (Ma Mb : FVec Ideal S256x1 .f32) (Ia Ib : IVec S256x1 32) (r : Fin 256) :
    comb Ma Ia Mb Ib (ix2 r 0) = if Ma (ix2 r 0) < Mb (ix2 r 0) ∨ (Ma (ix2 r 0) = Mb (ix2 r 0) ∧ (Ia (ix2 r 0)).toInt < (Ib (ix2 r 0)).toInt)
      then Ia (ix2 r 0) else Ib (ix2 r 0) := by
  pointwise [comb]
  by_cases h1 : Ma (ix2 r 0) < Mb (ix2 r 0) <;> by_cases h2 : Ma (ix2 r 0) = Mb (ix2 r 0) <;>
    by_cases h3 : (Ia (ix2 r 0)).toInt < (Ib (ix2 r 0)).toInt <;>
    simp [h1, h2, h3, IntOp.ori, IntOp.andi, IntOp.cmpi, Scalar.select, BitVec.slt]

/-- A sum of 32 terms by halves. -/
theorem tree (g : Fin 32 → EReal) : (((((g 0 + g 16) + (g 8 + g 24)) + ((g 4 + g 20) + (g 12 + g 28))) + (((g 2 + g 18) + (g 10 + g 26)) + ((g 6 + g 22) + (g 14 + g 30)))) + ((((g 1 + g 17) + (g 9 + g 25)) + ((g 5 + g 21) + (g 13 + g 29))) + (((g 3 + g 19) + (g 11 + g 27)) + ((g 7 + g 23) + (g 15 + g 31))))) = ∑ j, g j := by
  simp only [Fin.sum_univ_castSucc, Fin.sum_univ_zero, zero_add]
  simp only [Fin.castSucc, Fin.last, Fin.castAdd, Fin.castLE]
  change _ = g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 + g 31
  abel

/-- The sum of squares of a row. -/
theorem pay6_at (r : Fin 256) : k0_pay6 (F := Ideal) z (ix2 r 0) = ∑ j : Fin 32, z (ix2 r j) * z (ix2 r j) := by
  pointwise [k0_pay6, k0_pay4]
  exact tree fun j => z (ix2 r j) * z (ix2 r j)

/-- The sum of squares of a code. -/
theorem pay7_at (n : Fin 8192) : k0_pay7 (F := Ideal) e (ix2 0 n) = ∑ j : Fin 32, e (ix2 j n) * e (ix2 j n) := by
  pointwise [k0_pay7]
  exact tree fun j => e (ix2 j n) * e (ix2 j n)

/-- The index block holds, at each row, the first position of the least distance. -/
theorem best_first (r : Fin 256) (f : ℕ → EReal)
    (hf : ∀ n : Fin 8192, f n.val = (k0_pay6 (F := Ideal) z (ix2 r 0) + k0_pay7 (F := Ideal) e (ix2 0 n))
      - ∑ j : Fin 32, z (ix2 r j) * x (ix2 j n)) :
    IsFirst f 8192 (best z e x (ix2 r 0)) := by
  have hp : ∀ j, k0_pay5 (F := Ideal) z (ix2 r j) = z (ix2 r j) := fun j => by pointwise [k0_pay5, k0_pay4]
  have hd : ∀ (off : ℕ) (ho : off + 512 ≤ 8192) hs inb (l : Fin 512),
      dch off hs (k0_pay5 z) (k0_pay6 z) (k0_pay7 e) (ch off inb x) (ix2 r l) = f (off + l.val) := by
    intro off ho hs inb l
    have h : off + l.val < 8192 := by omega
    rw [dch_at _ _ _ _ _ _ _ _ h, hf ⟨off + l.val, h⟩]
    refine congrArg₂ (· - ·) rfl (Finset.sum_congr rfl fun j _ => ?_)
    rw [hp, ch_at _ _ _ _ _ h]
  have s0 : Found f 0 0 (broadcast S256x1 (Scalar.ofBits (F := Ideal) .f32 0x7F800000#32) (ix2 r 0 : S256x1.Idx)) (broadcast S256x1 0#32 (ix2 r 0 : S256x1.Idx)) := by
    pointwise
    rw [show Ideal.ofBits .f32 0x7F800000#32 = ⊤ by simp [Ideal.ofBits, Ideal.ieee]]
    exact Found.start f 0
  have s8 : Found f 4096 4096 (broadcast S256x1 (Scalar.ofBits (F := Ideal) .f32 0x7F800000#32) (ix2 r 0 : S256x1.Idx)) (broadcast S256x1 0#32 (ix2 r 0 : S256x1.Idx)) := by
    pointwise
    rw [show Ideal.ofBits .f32 0x7F800000#32 = ⊤ by simp [Ideal.ofBits, Ideal.ieee]]
    exact Found.start f 4096
  have s_0 : Found f 0 512 (M0 z e x (ix2 r 0)) (I0 z e x (ix2 r 0)) :=
    step_found 0 (by omega) 0 (by omega) _ _ _ r f (hd 0 (by omega) _ _) s0
  have s_1 : Found f 0 1024 (M1 z e x (ix2 r 0)) (I1 z e x (ix2 r 0)) :=
    step_found 512 (by omega) 0 (by omega) _ _ _ r f (hd 512 (by omega) _ _) s_0
  have s_2 : Found f 0 1536 (M2 z e x (ix2 r 0)) (I2 z e x (ix2 r 0)) :=
    step_found 1024 (by omega) 0 (by omega) _ _ _ r f (hd 1024 (by omega) _ _) s_1
  have s_3 : Found f 0 2048 (M3 z e x (ix2 r 0)) (I3 z e x (ix2 r 0)) :=
    step_found 1536 (by omega) 0 (by omega) _ _ _ r f (hd 1536 (by omega) _ _) s_2
  have s_4 : Found f 0 2560 (M4 z e x (ix2 r 0)) (I4 z e x (ix2 r 0)) :=
    step_found 2048 (by omega) 0 (by omega) _ _ _ r f (hd 2048 (by omega) _ _) s_3
  have s_5 : Found f 0 3072 (M5 z e x (ix2 r 0)) (I5 z e x (ix2 r 0)) :=
    step_found 2560 (by omega) 0 (by omega) _ _ _ r f (hd 2560 (by omega) _ _) s_4
  have s_6 : Found f 0 3584 (M6 z e x (ix2 r 0)) (I6 z e x (ix2 r 0)) :=
    step_found 3072 (by omega) 0 (by omega) _ _ _ r f (hd 3072 (by omega) _ _) s_5
  have s_7 : Found f 0 4096 (M7 z e x (ix2 r 0)) (I7 z e x (ix2 r 0)) :=
    step_found 3584 (by omega) 0 (by omega) _ _ _ r f (hd 3584 (by omega) _ _) s_6
  have s_8 : Found f 4096 4608 (M8 z e x (ix2 r 0)) (I8 z e x (ix2 r 0)) :=
    step_found 4096 (by omega) 4096 (by omega) _ _ _ r f (hd 4096 (by omega) _ _) s8
  have s_9 : Found f 4096 5120 (M9 z e x (ix2 r 0)) (I9 z e x (ix2 r 0)) :=
    step_found 4608 (by omega) 4096 (by omega) _ _ _ r f (hd 4608 (by omega) _ _) s_8
  have s_10 : Found f 4096 5632 (M10 z e x (ix2 r 0)) (I10 z e x (ix2 r 0)) :=
    step_found 5120 (by omega) 4096 (by omega) _ _ _ r f (hd 5120 (by omega) _ _) s_9
  have s_11 : Found f 4096 6144 (M11 z e x (ix2 r 0)) (I11 z e x (ix2 r 0)) :=
    step_found 5632 (by omega) 4096 (by omega) _ _ _ r f (hd 5632 (by omega) _ _) s_10
  have s_12 : Found f 4096 6656 (M12 z e x (ix2 r 0)) (I12 z e x (ix2 r 0)) :=
    step_found 6144 (by omega) 4096 (by omega) _ _ _ r f (hd 6144 (by omega) _ _) s_11
  have s_13 : Found f 4096 7168 (M13 z e x (ix2 r 0)) (I13 z e x (ix2 r 0)) :=
    step_found 6656 (by omega) 4096 (by omega) _ _ _ r f (hd 6656 (by omega) _ _) s_12
  have s_14 : Found f 4096 7680 (M14 z e x (ix2 r 0)) (I14 z e x (ix2 r 0)) :=
    step_found 7168 (by omega) 4096 (by omega) _ _ _ r f (hd 7168 (by omega) _ _) s_13
  have s_15 : Found f 4096 8192 (M15 z e x (ix2 r 0)) (I15 z e x (ix2 r 0)) :=
    step_found 7680 (by omega) 4096 (by omega) _ _ _ r f (hd 7680 (by omega) _ _) s_14
  unfold best
  rw [comb_at]
  exact Argmin.combine s_7 s_15

end Cert.Proof.Blk
-- ==== Proof.Chain.lean ====
module

public import proofs.«01_k».proof.Proof.Block

@[expose] public section

set_option maxRecDepth 16384

noncomputable section

/-! The printed payloads of the search are the steps of the search. -/

namespace Cert.Proof.Blk

open Idealize.ShloMosaic Idealize.ShloMosaic.TcCoe Idealize.SL.Sem
open Cert.KernelIdeal Cert.KernelIdeal.Gen

/-- The one-hot block of one chunk, starting at the code `o`, of a column of positions. -/
def ohc (o : BitVec 32) (b : IVec S256x1 32) : FVec Ideal S256x512 .f32 :=
  select (cmpi .eq (addi (iota .tc S256x512 32 [1] iota_S256x512_d1_w32) (broadcast S256x512 o)) (broadcastTo S256x512 b broadcasts_S256x1_S256x512))
    (broadcast S256x512 (Scalar.ofBits .f32 0x3F800000#32)) (broadcast S256x512 (Scalar.ofBits .f32 0x00000000#32))

section Steps

variable (v2 : FVec Ideal S256x32 .bf16) (v18 : FVec Ideal S256x1 .f32) (v36 : FVec Ideal S1x8192 .f32)
  (M : FVec Ideal S256x1 .f32) (I : IVec S256x1 32) (y w : Vec Ideal S32x512 .bf16)

/-- The third and fourth chunks, the distance. -/
theorem s33 : k0_pay33 (F := Ideal) v2 v18 v36 M (k0_pay24 v2 y) (k0_pay25 v18 v36) w = stepM (dch 1536 slices_S1x8192_o0_1536_S1x512 v2 v18 v36 w) (stepM (dch 1024 slices_S1x8192_o0_1024_S1x512 v2 v18 v36 y) M) := rfl
/-- The third and fourth chunks, the position. -/
theorem s34 : k0_pay34 (F := Ideal) v2 v18 v36 M I (k0_pay24 v2 y) (k0_pay25 v18 v36) w = stepI 1536#32 (dch 1536 slices_S1x8192_o0_1536_S1x512 v2 v18 v36 w) (stepM (dch 1024 slices_S1x8192_o0_1024_S1x512 v2 v18 v36 y) M) (stepI 1024#32 (dch 1024 slices_S1x8192_o0_1024_S1x512 v2 v18 v36 y) M I) := rfl
/-- The fifth and sixth chunks, the distance. -/
theorem s42 : k0_pay42 (F := Ideal) v2 v18 v36 M (k0_pay35 v2 v18 v36 y) w = stepM (dch 2560 slices_S1x8192_o0_2560_S1x512 v2 v18 v36 w) (stepM (dch 2048 slices_S1x8192_o0_2048_S1x512 v2 v18 v36 y) M) := rfl
/-- The fifth and sixth chunks, the position. -/
theorem s43 : k0_pay43 (F := Ideal) v2 v18 v36 M I (k0_pay35 v2 v18 v36 y) w = stepI 2560#32 (dch 2560 slices_S1x8192_o0_2560_S1x512 v2 v18 v36 w) (stepM (dch 2048 slices_S1x8192_o0_2048_S1x512 v2 v18 v36 y) M) (stepI 2048#32 (dch 2048 slices_S1x8192_o0_2048_S1x512 v2 v18 v36 y) M I) := rfl
/-- The seventh and eighth chunks, the distance. -/
theorem s51 : k0_pay51 (F := Ideal) v2 v18 v36 M (k0_pay45 v2 v18 v36 y) w = stepM (dch 3584 slices_S1x8192_o0_3584_S1x512 v2 v18 v36 w) (stepM (dch 3072 slices_S1x8192_o0_3072_S1x512 v2 v18 v36 y) M) := rfl
/-- The seventh and eighth chunks, the position. -/
theorem s52 : k0_pay52 (F := Ideal) v2 v18 v36 M I (k0_pay44 v2 v18 v36 y) (k0_pay45 v2 v18 v36 y) w = stepI 3584#32 (dch 3584 slices_S1x8192_o0_3584_S1x512 v2 v18 v36 w) (stepM (dch 3072 slices_S1x8192_o0_3072_S1x512 v2 v18 v36 y) M) (stepI 3072#32 (dch 3072 slices_S1x8192_o0_3072_S1x512 v2 v18 v36 y) M I) := rfl
/-- The ninth and tenth chunks, the distance. -/
theorem s62 : k0_pay62 (F := Ideal) v2 v18 v36 k0_pay53 (k0_pay55 v2 v18 v36 y) w = stepM (dch 4608 slices_S1x8192_o0_4608_S1x512 v2 v18 v36 w) (stepM (dch 4096 slices_S1x8192_o0_4096_S1x512 v2 v18 v36 y) (broadcast S256x1 (Scalar.ofBits .f32 0x7F800000#32))) := rfl
/-- The ninth and tenth chunks, the position. -/
theorem s63 : k0_pay63 (F := Ideal) v2 v18 v36 k0_pay53 k0_pay54 (k0_pay55 v2 v18 v36 y) w = stepI 4608#32 (dch 4608 slices_S1x8192_o0_4608_S1x512 v2 v18 v36 w) (stepM (dch 4096 slices_S1x8192_o0_4096_S1x512 v2 v18 v36 y) (broadcast S256x1 (Scalar.ofBits .f32 0x7F800000#32))) (stepI 4096#32 (dch 4096 slices_S1x8192_o0_4096_S1x512 v2 v18 v36 y) (broadcast S256x1 (Scalar.ofBits .f32 0x7F800000#32)) (broadcast S256x1 0#32)) := rfl
/-- The eleventh and twelfth chunks, the distance. -/
theorem s71 : k0_pay71 (F := Ideal) v2 v18 v36 M (k0_pay65 v2 v18 v36 y) w = stepM (dch 5632 slices_S1x8192_o0_5632_S1x512 v2 v18 v36 w) (stepM (dch 5120 slices_S1x8192_o0_5120_S1x512 v2 v18 v36 y) M) := rfl
/-- The eleventh and twelfth chunks, the position. -/
theorem s72 : k0_pay72 (F := Ideal) v2 v18 v36 M I (k0_pay64 v2 v18 v36 y) (k0_pay65 v2 v18 v36 y) w = stepI 5632#32 (dch 5632 slices_S1x8192_o0_5632_S1x512 v2 v18 v36 w) (stepM (dch 5120 slices_S1x8192_o0_5120_S1x512 v2 v18 v36 y) M) (stepI 5120#32 (dch 5120 slices_S1x8192_o0_5120_S1x512 v2 v18 v36 y) M I) := rfl
/-- The thirteenth and fourteenth chunks, the distance. -/
theorem s80 : k0_pay80 (F := Ideal) v2 v18 v36 M (k0_pay74 v2 v18 v36 y) w = stepM (dch 6656 slices_S1x8192_o0_6656_S1x512 v2 v18 v36 w) (stepM (dch 6144 slices_S1x8192_o0_6144_S1x512 v2 v18 v36 y) M) := rfl
/-- The thirteenth and fourteenth chunks, the position. -/
theorem s81 : k0_pay81 (F := Ideal) v2 v18 v36 M I (k0_pay73 v2 v18 v36 y) (k0_pay74 v2 v18 v36 y) (iota .tc S256x512 32 [1] iota_S256x512_d1_w32) 6144#32 w = stepI 6656#32 (dch 6656 slices_S1x8192_o0_6656_S1x512 v2 v18 v36 w) (stepM (dch 6144 slices_S1x8192_o0_6144_S1x512 v2 v18 v36 y) M) (stepI 6144#32 (dch 6144 slices_S1x8192_o0_6144_S1x512 v2 v18 v36 y) M I) := rfl
/-- The last two chunks and the choice. -/
theorem s85 (N : FVec Ideal S256x1 .f32) (J : IVec S256x1 32) : k0_pay85 (F := Ideal) v2 v18 v36 M I N J (k0_pay82 v2 v18 v36 y) (k0_pay83 v2 v18 v36 y) k0_pay84 w = comb M I (stepM (dch 7680 slices_S1x8192_o0_7680_S1x512 v2 v18 v36 w) (stepM (dch 7168 slices_S1x8192_o0_7168_S1x512 v2 v18 v36 y) N)) (stepI 7680#32 (dch 7680 slices_S1x8192_o0_7680_S1x512 v2 v18 v36 w) (stepM (dch 7168 slices_S1x8192_o0_7168_S1x512 v2 v18 v36 y) N) (stepI 7168#32 (dch 7168 slices_S1x8192_o0_7168_S1x512 v2 v18 v36 y) N J)) := rfl

end Steps

variable (z : Vec Ideal S256x32 .f32) (e : Vec Ideal S32x8192 .f32) (x : Vec Ideal S32x8192 .bf16) (y w : Vec Ideal S32x512 .bf16)

/-- The first two chunks, the distance. -/
theorem s22 : k0_pay22 (F := Ideal) (k0_pay5 z) (k0_pay6 z) (k0_pay7 e) k0_pay10 (k0_pay12 z y) (k0_pay13 e) (k0_pay14 z) w = stepM (dch 512 slices_S1x8192_o0_512_S1x512 (k0_pay5 z) (k0_pay6 z) (k0_pay7 e) w) (stepM (dch 0 slices_S1x8192_o0_0_S1x512 (k0_pay5 z) (k0_pay6 z) (k0_pay7 e) y) (broadcast S256x1 (Scalar.ofBits .f32 0x7F800000#32))) := rfl
/-- The first two chunks, the position. -/
theorem s23 : k0_pay23 (F := Ideal) (k0_pay5 z) (k0_pay6 z) (k0_pay7 e) k0_pay10 k0_pay11 (k0_pay12 z y) (k0_pay13 e) (k0_pay14 z) w = stepI 512#32 (dch 512 slices_S1x8192_o0_512_S1x512 (k0_pay5 z) (k0_pay6 z) (k0_pay7 e) w) (stepM (dch 0 slices_S1x8192_o0_0_S1x512 (k0_pay5 z) (k0_pay6 z) (k0_pay7 e) y) (broadcast S256x1 (Scalar.ofBits .f32 0x7F800000#32))) (stepI 0#32 (dch 0 slices_S1x8192_o0_0_S1x512 (k0_pay5 z) (k0_pay6 z) (k0_pay7 e) y) (broadcast S256x1 (Scalar.ofBits .f32 0x7F800000#32)) (broadcast S256x1 0#32)) := rfl
/-- The printed index block is `best`. -/
theorem pay85_eq : k0_pay85 (F := Ideal) (k0_pay5 z) (k0_pay6 z) (k0_pay7 e) (k0_pay51 (k0_pay5 z) (k0_pay6 z) (k0_pay7 e) (k0_pay42
    (k0_pay5 z) (k0_pay6 z) (k0_pay7 e) (k0_pay33 (k0_pay5 z) (k0_pay6 z) (k0_pay7 e) (k0_pay22 (k0_pay5 z) (k0_pay6 z)
    (k0_pay7 e) k0_pay10 (k0_pay12 z (ch 0 inb_S32x8192_S32x512_0_0 x)) (k0_pay13 e) (k0_pay14 z) (ch 512
    inb_S32x8192_S32x512_0_512 x)) (k0_pay24 (k0_pay5 z) (ch 1024 inb_S32x8192_S32x512_0_1024 x)) (k0_pay25 (k0_pay6 z)
    (k0_pay7 e)) (ch 1536 inb_S32x8192_S32x512_0_1536 x)) (k0_pay35 (k0_pay5 z) (k0_pay6 z) (k0_pay7 e) (ch 2048
    inb_S32x8192_S32x512_0_2048 x)) (ch 2560 inb_S32x8192_S32x512_0_2560 x)) (k0_pay45 (k0_pay5 z) (k0_pay6 z) (k0_pay7 e)
    (ch 3072 inb_S32x8192_S32x512_0_3072 x)) (ch 3584 inb_S32x8192_S32x512_0_3584 x)) (k0_pay52 (k0_pay5 z) (k0_pay6 z)
    (k0_pay7 e) (k0_pay42 (k0_pay5 z) (k0_pay6 z) (k0_pay7 e) (k0_pay33 (k0_pay5 z) (k0_pay6 z) (k0_pay7 e) (k0_pay22
    (k0_pay5 z) (k0_pay6 z) (k0_pay7 e) k0_pay10 (k0_pay12 z (ch 0 inb_S32x8192_S32x512_0_0 x)) (k0_pay13 e) (k0_pay14 z)
    (ch 512 inb_S32x8192_S32x512_0_512 x)) (k0_pay24 (k0_pay5 z) (ch 1024 inb_S32x8192_S32x512_0_1024 x)) (k0_pay25
    (k0_pay6 z) (k0_pay7 e)) (ch 1536 inb_S32x8192_S32x512_0_1536 x)) (k0_pay35 (k0_pay5 z) (k0_pay6 z) (k0_pay7 e) (ch
    2048 inb_S32x8192_S32x512_0_2048 x)) (ch 2560 inb_S32x8192_S32x512_0_2560 x)) (k0_pay43 (k0_pay5 z) (k0_pay6 z)
    (k0_pay7 e) (k0_pay33 (k0_pay5 z) (k0_pay6 z) (k0_pay7 e) (k0_pay22 (k0_pay5 z) (k0_pay6 z) (k0_pay7 e) k0_pay10
    (k0_pay12 z (ch 0 inb_S32x8192_S32x512_0_0 x)) (k0_pay13 e) (k0_pay14 z) (ch 512 inb_S32x8192_S32x512_0_512 x))
    (k0_pay24 (k0_pay5 z) (ch 1024 inb_S32x8192_S32x512_0_1024 x)) (k0_pay25 (k0_pay6 z) (k0_pay7 e)) (ch 1536
    inb_S32x8192_S32x512_0_1536 x)) (k0_pay34 (k0_pay5 z) (k0_pay6 z) (k0_pay7 e) (k0_pay22 (k0_pay5 z) (k0_pay6 z)
    (k0_pay7 e) k0_pay10 (k0_pay12 z (ch 0 inb_S32x8192_S32x512_0_0 x)) (k0_pay13 e) (k0_pay14 z) (ch 512
    inb_S32x8192_S32x512_0_512 x)) (k0_pay23 (k0_pay5 z) (k0_pay6 z) (k0_pay7 e) k0_pay10 k0_pay11 (k0_pay12 z (ch 0
    inb_S32x8192_S32x512_0_0 x)) (k0_pay13 e) (k0_pay14 z) (ch 512 inb_S32x8192_S32x512_0_512 x)) (k0_pay24 (k0_pay5 z)
    (ch 1024 inb_S32x8192_S32x512_0_1024 x)) (k0_pay25 (k0_pay6 z) (k0_pay7 e)) (ch 1536 inb_S32x8192_S32x512_0_1536 x))
    (k0_pay35 (k0_pay5 z) (k0_pay6 z) (k0_pay7 e) (ch 2048 inb_S32x8192_S32x512_0_2048 x)) (ch 2560
    inb_S32x8192_S32x512_0_2560 x)) (k0_pay44 (k0_pay5 z) (k0_pay6 z) (k0_pay7 e) (ch 3072 inb_S32x8192_S32x512_0_3072 x))
    (k0_pay45 (k0_pay5 z) (k0_pay6 z) (k0_pay7 e) (ch 3072 inb_S32x8192_S32x512_0_3072 x)) (ch 3584
    inb_S32x8192_S32x512_0_3584 x)) (k0_pay80 (k0_pay5 z) (k0_pay6 z) (k0_pay7 e) (k0_pay71 (k0_pay5 z) (k0_pay6 z)
    (k0_pay7 e) (k0_pay62 (k0_pay5 z) (k0_pay6 z) (k0_pay7 e) k0_pay53 (k0_pay55 (k0_pay5 z) (k0_pay6 z) (k0_pay7 e) (ch
    4096 inb_S32x8192_S32x512_0_4096 x)) (ch 4608 inb_S32x8192_S32x512_0_4608 x)) (k0_pay65 (k0_pay5 z) (k0_pay6 z)
    (k0_pay7 e) (ch 5120 inb_S32x8192_S32x512_0_5120 x)) (ch 5632 inb_S32x8192_S32x512_0_5632 x)) (k0_pay74 (k0_pay5 z)
    (k0_pay6 z) (k0_pay7 e) (ch 6144 inb_S32x8192_S32x512_0_6144 x)) (ch 6656 inb_S32x8192_S32x512_0_6656 x)) (k0_pay81
    (k0_pay5 z) (k0_pay6 z) (k0_pay7 e) (k0_pay71 (k0_pay5 z) (k0_pay6 z) (k0_pay7 e) (k0_pay62 (k0_pay5 z) (k0_pay6 z)
    (k0_pay7 e) k0_pay53 (k0_pay55 (k0_pay5 z) (k0_pay6 z) (k0_pay7 e) (ch 4096 inb_S32x8192_S32x512_0_4096 x)) (ch 4608
    inb_S32x8192_S32x512_0_4608 x)) (k0_pay65 (k0_pay5 z) (k0_pay6 z) (k0_pay7 e) (ch 5120 inb_S32x8192_S32x512_0_5120 x))
    (ch 5632 inb_S32x8192_S32x512_0_5632 x)) (k0_pay72 (k0_pay5 z) (k0_pay6 z) (k0_pay7 e) (k0_pay62 (k0_pay5 z) (k0_pay6
    z) (k0_pay7 e) k0_pay53 (k0_pay55 (k0_pay5 z) (k0_pay6 z) (k0_pay7 e) (ch 4096 inb_S32x8192_S32x512_0_4096 x)) (ch
    4608 inb_S32x8192_S32x512_0_4608 x)) (k0_pay63 (k0_pay5 z) (k0_pay6 z) (k0_pay7 e) k0_pay53 k0_pay54 (k0_pay55
    (k0_pay5 z) (k0_pay6 z) (k0_pay7 e) (ch 4096 inb_S32x8192_S32x512_0_4096 x)) (ch 4608 inb_S32x8192_S32x512_0_4608 x))
    (k0_pay64 (k0_pay5 z) (k0_pay6 z) (k0_pay7 e) (ch 5120 inb_S32x8192_S32x512_0_5120 x)) (k0_pay65 (k0_pay5 z) (k0_pay6
    z) (k0_pay7 e) (ch 5120 inb_S32x8192_S32x512_0_5120 x)) (ch 5632 inb_S32x8192_S32x512_0_5632 x)) (k0_pay73 (k0_pay5 z)
    (k0_pay6 z) (k0_pay7 e) (ch 6144 inb_S32x8192_S32x512_0_6144 x)) (k0_pay74 (k0_pay5 z) (k0_pay6 z) (k0_pay7 e) (ch
    6144 inb_S32x8192_S32x512_0_6144 x)) (iota .tc S256x512 32 [1] iota_S256x512_d1_w32) 6144#32 (ch 6656
    inb_S32x8192_S32x512_0_6656 x)) (k0_pay82 (k0_pay5 z) (k0_pay6 z) (k0_pay7 e) (ch 7168 inb_S32x8192_S32x512_0_7168 x))
    (k0_pay83 (k0_pay5 z) (k0_pay6 z) (k0_pay7 e) (ch 7168 inb_S32x8192_S32x512_0_7168 x)) k0_pay84 (ch 7680
    inb_S32x8192_S32x512_0_7680 x)  = best z e x := by
  rw [s85, s80, s81, s71, s72, s62, s63, s51, s52, s42, s43, s33, s34, s22, s23]
  rfl

/-- The one-hot block of the first chunk, in the same words. -/
theorem pay86_eq : k0_pay86 (F := Ideal) (k0_pay5 z) (k0_pay6 z) (k0_pay7 e) (k0_pay51 (k0_pay5 z) (k0_pay6 z) (k0_pay7 e) (k0_pay42
    (k0_pay5 z) (k0_pay6 z) (k0_pay7 e) (k0_pay33 (k0_pay5 z) (k0_pay6 z) (k0_pay7 e) (k0_pay22 (k0_pay5 z) (k0_pay6 z)
    (k0_pay7 e) k0_pay10 (k0_pay12 z (ch 0 inb_S32x8192_S32x512_0_0 x)) (k0_pay13 e) (k0_pay14 z) (ch 512
    inb_S32x8192_S32x512_0_512 x)) (k0_pay24 (k0_pay5 z) (ch 1024 inb_S32x8192_S32x512_0_1024 x)) (k0_pay25 (k0_pay6 z)
    (k0_pay7 e)) (ch 1536 inb_S32x8192_S32x512_0_1536 x)) (k0_pay35 (k0_pay5 z) (k0_pay6 z) (k0_pay7 e) (ch 2048
    inb_S32x8192_S32x512_0_2048 x)) (ch 2560 inb_S32x8192_S32x512_0_2560 x)) (k0_pay45 (k0_pay5 z) (k0_pay6 z) (k0_pay7 e)
    (ch 3072 inb_S32x8192_S32x512_0_3072 x)) (ch 3584 inb_S32x8192_S32x512_0_3584 x)) (k0_pay52 (k0_pay5 z) (k0_pay6 z)
    (k0_pay7 e) (k0_pay42 (k0_pay5 z) (k0_pay6 z) (k0_pay7 e) (k0_pay33 (k0_pay5 z) (k0_pay6 z) (k0_pay7 e) (k0_pay22
    (k0_pay5 z) (k0_pay6 z) (k0_pay7 e) k0_pay10 (k0_pay12 z (ch 0 inb_S32x8192_S32x512_0_0 x)) (k0_pay13 e) (k0_pay14 z)
    (ch 512 inb_S32x8192_S32x512_0_512 x)) (k0_pay24 (k0_pay5 z) (ch 1024 inb_S32x8192_S32x512_0_1024 x)) (k0_pay25
    (k0_pay6 z) (k0_pay7 e)) (ch 1536 inb_S32x8192_S32x512_0_1536 x)) (k0_pay35 (k0_pay5 z) (k0_pay6 z) (k0_pay7 e) (ch
    2048 inb_S32x8192_S32x512_0_2048 x)) (ch 2560 inb_S32x8192_S32x512_0_2560 x)) (k0_pay43 (k0_pay5 z) (k0_pay6 z)
    (k0_pay7 e) (k0_pay33 (k0_pay5 z) (k0_pay6 z) (k0_pay7 e) (k0_pay22 (k0_pay5 z) (k0_pay6 z) (k0_pay7 e) k0_pay10
    (k0_pay12 z (ch 0 inb_S32x8192_S32x512_0_0 x)) (k0_pay13 e) (k0_pay14 z) (ch 512 inb_S32x8192_S32x512_0_512 x))
    (k0_pay24 (k0_pay5 z) (ch 1024 inb_S32x8192_S32x512_0_1024 x)) (k0_pay25 (k0_pay6 z) (k0_pay7 e)) (ch 1536
    inb_S32x8192_S32x512_0_1536 x)) (k0_pay34 (k0_pay5 z) (k0_pay6 z) (k0_pay7 e) (k0_pay22 (k0_pay5 z) (k0_pay6 z)
    (k0_pay7 e) k0_pay10 (k0_pay12 z (ch 0 inb_S32x8192_S32x512_0_0 x)) (k0_pay13 e) (k0_pay14 z) (ch 512
    inb_S32x8192_S32x512_0_512 x)) (k0_pay23 (k0_pay5 z) (k0_pay6 z) (k0_pay7 e) k0_pay10 k0_pay11 (k0_pay12 z (ch 0
    inb_S32x8192_S32x512_0_0 x)) (k0_pay13 e) (k0_pay14 z) (ch 512 inb_S32x8192_S32x512_0_512 x)) (k0_pay24 (k0_pay5 z)
    (ch 1024 inb_S32x8192_S32x512_0_1024 x)) (k0_pay25 (k0_pay6 z) (k0_pay7 e)) (ch 1536 inb_S32x8192_S32x512_0_1536 x))
    (k0_pay35 (k0_pay5 z) (k0_pay6 z) (k0_pay7 e) (ch 2048 inb_S32x8192_S32x512_0_2048 x)) (ch 2560
    inb_S32x8192_S32x512_0_2560 x)) (k0_pay44 (k0_pay5 z) (k0_pay6 z) (k0_pay7 e) (ch 3072 inb_S32x8192_S32x512_0_3072 x))
    (k0_pay45 (k0_pay5 z) (k0_pay6 z) (k0_pay7 e) (ch 3072 inb_S32x8192_S32x512_0_3072 x)) (ch 3584
    inb_S32x8192_S32x512_0_3584 x)) (k0_pay80 (k0_pay5 z) (k0_pay6 z) (k0_pay7 e) (k0_pay71 (k0_pay5 z) (k0_pay6 z)
    (k0_pay7 e) (k0_pay62 (k0_pay5 z) (k0_pay6 z) (k0_pay7 e) k0_pay53 (k0_pay55 (k0_pay5 z) (k0_pay6 z) (k0_pay7 e) (ch
    4096 inb_S32x8192_S32x512_0_4096 x)) (ch 4608 inb_S32x8192_S32x512_0_4608 x)) (k0_pay65 (k0_pay5 z) (k0_pay6 z)
    (k0_pay7 e) (ch 5120 inb_S32x8192_S32x512_0_5120 x)) (ch 5632 inb_S32x8192_S32x512_0_5632 x)) (k0_pay74 (k0_pay5 z)
    (k0_pay6 z) (k0_pay7 e) (ch 6144 inb_S32x8192_S32x512_0_6144 x)) (ch 6656 inb_S32x8192_S32x512_0_6656 x)) (k0_pay81
    (k0_pay5 z) (k0_pay6 z) (k0_pay7 e) (k0_pay71 (k0_pay5 z) (k0_pay6 z) (k0_pay7 e) (k0_pay62 (k0_pay5 z) (k0_pay6 z)
    (k0_pay7 e) k0_pay53 (k0_pay55 (k0_pay5 z) (k0_pay6 z) (k0_pay7 e) (ch 4096 inb_S32x8192_S32x512_0_4096 x)) (ch 4608
    inb_S32x8192_S32x512_0_4608 x)) (k0_pay65 (k0_pay5 z) (k0_pay6 z) (k0_pay7 e) (ch 5120 inb_S32x8192_S32x512_0_5120 x))
    (ch 5632 inb_S32x8192_S32x512_0_5632 x)) (k0_pay72 (k0_pay5 z) (k0_pay6 z) (k0_pay7 e) (k0_pay62 (k0_pay5 z) (k0_pay6
    z) (k0_pay7 e) k0_pay53 (k0_pay55 (k0_pay5 z) (k0_pay6 z) (k0_pay7 e) (ch 4096 inb_S32x8192_S32x512_0_4096 x)) (ch
    4608 inb_S32x8192_S32x512_0_4608 x)) (k0_pay63 (k0_pay5 z) (k0_pay6 z) (k0_pay7 e) k0_pay53 k0_pay54 (k0_pay55
    (k0_pay5 z) (k0_pay6 z) (k0_pay7 e) (ch 4096 inb_S32x8192_S32x512_0_4096 x)) (ch 4608 inb_S32x8192_S32x512_0_4608 x))
    (k0_pay64 (k0_pay5 z) (k0_pay6 z) (k0_pay7 e) (ch 5120 inb_S32x8192_S32x512_0_5120 x)) (k0_pay65 (k0_pay5 z) (k0_pay6
    z) (k0_pay7 e) (ch 5120 inb_S32x8192_S32x512_0_5120 x)) (ch 5632 inb_S32x8192_S32x512_0_5632 x)) (k0_pay73 (k0_pay5 z)
    (k0_pay6 z) (k0_pay7 e) (ch 6144 inb_S32x8192_S32x512_0_6144 x)) (k0_pay74 (k0_pay5 z) (k0_pay6 z) (k0_pay7 e) (ch
    6144 inb_S32x8192_S32x512_0_6144 x)) (iota .tc S256x512 32 [1] iota_S256x512_d1_w32) 6144#32 (ch 6656
    inb_S32x8192_S32x512_0_6656 x)) (k0_pay82 (k0_pay5 z) (k0_pay6 z) (k0_pay7 e) (ch 7168 inb_S32x8192_S32x512_0_7168 x))
    (k0_pay83 (k0_pay5 z) (k0_pay6 z) (k0_pay7 e) (ch 7168 inb_S32x8192_S32x512_0_7168 x)) k0_pay84 (ch 7680
    inb_S32x8192_S32x512_0_7680 x)  = ohc 0#32 (best z e x) := by
  rw [← pay85_eq]
  rfl

end Cert.Proof.Blk
-- ==== Proof.Hot.lean ====
module

public import proofs.«01_k».proof.Proof.Chain
public import Idealize.ShloMosaic.Lib.Pipeline.ReadBack

@[expose] public section

set_option maxRecDepth 16384

noncomputable section

/-! The one-hot block that a column of positions selects, and the running counts of the codes, each stored in sixteen chunks. -/

namespace Cert.Proof.Blk

open Idealize.ShloMosaic Idealize.ShloMosaic.TcCoe Idealize.SL.Sem
open Cert.KernelIdeal Cert.KernelIdeal.Gen

/-- The one-hot block of a column of positions. -/
def ohB (b : IVec S256x1 32) : FVec Ideal S256x8192 .f32 := fun y => if BitVec.ofNat 32 (y 1).val = b (ix2 (y 0) 0) then 1 else 0

/-- One chunk of the one-hot block at one place. -/
theorem ohc_at (o : ℕ) (b : IVec S256x1 32) (r : Fin 256) (k : Fin 512) :
    ohc (BitVec.ofNat 32 o) b (ix2 r k) = if BitVec.ofNat 32 (o + k.val) = b (ix2 r 0) then 1 else 0 := by
  have hk : BitVec.ofNat 32 k.val + BitVec.ofNat 32 o = BitVec.ofNat 32 (o + k.val) := by rw [Nat.add_comm, BitVec.ofNat_add]
  pointwise [ohc]
  simp only [IntOp.addi, hk, Scalar.select, IntOp.cmpi]
  by_cases h : BitVec.ofNat 32 (o + k.val) = b (ix2 r 0)
  · simp [h]
  · rw [if_neg h, beq_eq_false_iff_ne.mpr h]
    simp

/-- One chunk of the counts after the point, from the counts before it. -/
def cntc (o : BitVec 32) (b : IVec S256x1 32) (q : Vec Ideal S1x512 .f32) : FVec Ideal S1x512 .f32 :=
  shapeCast S1x512 (addf q (shapeCast S1x512 (multiReduction .add [0] S512 (ohc o b) 0x00000000#32 reduces_S256x512_S512 (.inl rfl) rfl)
    shapeCasts_S512_S1x512)) shapeCasts_S1x512_S1x512

/-- The counts after the point: those before it and the column sums of the one-hot block. -/
def cntG (b : IVec S256x1 32) (p : Vec Ideal S1x8192 .f32) : Vec Ideal S1x8192 .f32 := fun y => p y + ∑ r : Fin 256, ohB b (ix2 r (y 1))

/-- One chunk of the counts at one place. -/
theorem cntc_at (o : ℕ) (b : IVec S256x1 32) (q : Vec Ideal S1x512 .f32) (k : Fin 512) :
    cntc (BitVec.ofNat 32 o) b q (ix2 0 k) = q (ix2 0 k) + ∑ r : Fin 256, if BitVec.ofNat 32 (o + k.val) = b (ix2 r 0) then 1 else 0 := by
  simp only [← ohc_at]
  pointwise [cntc]

/-- The one-hot chunk that starts at `o` is that part of the one-hot block. -/
theorem enc_piece (o : ℕ) (ho : o + 512 ≤ 8192) (inb : ∀ a, (![0, o] : Fin 2 → ℕ) a + S256x512.size a ≤ S256x8192.size a)
    (b : IVec S256x1 32) (x : S256x512.Idx) :
    ohc (BitVec.ofNat 32 o) b x = ohB b ((Rect.unit (s := S256x8192) ![0, o] ![256, 512] inb).emb x) := by
  have e0 : (Rect.unit (s := S256x8192) ![0, o] ![256, 512] inb).emb x 0 = x 0 := by
    apply Fin.ext
    show 0 + 1 * (x 0).val = (x 0).val
    omega
  have e1 : ((Rect.unit (s := S256x8192) ![0, o] ![256, 512] inb).emb x 1).val = o + (x 1).val := by
    show o + 1 * (x 1).val = _
    omega
  unfold ohB
  rw [e1, e0]
  conv_lhs => rw [eq_ix2 x]
  exact ohc_at o b (x 0) (x 1)

/-- The counts of the chunk that starts at `o` are that part of the counts. -/
theorem cnt_piece (o : ℕ) (ho : o + 512 ≤ 8192) (inb : ∀ a, (![0, o] : Fin 2 → ℕ) a + S1x512.size a ≤ S1x8192.size a)
    (b : IVec S256x1 32) (p : Vec Ideal S1x8192 .f32) (x : S1x512.Idx) :
    cntc (BitVec.ofNat 32 o) b (View.ld (Val := Elt Ideal) (S := S1x8192) (e' := .f32) p (Rect.unit ![0, o] ![1, 512] inb)) x
      = cntG b p ((Rect.unit (s := S1x8192) ![0, o] ![1, 512] inb).emb x) := by
  have e1 : ((Rect.unit (s := S1x8192) ![0, o] ![1, 512] inb).emb x 1).val = o + (x 1).val := by
    show o + 1 * (x 1).val = _
    omega
  obtain ⟨k, rfl⟩ : ∃ k : Fin 512, x = ix2 0 k := ⟨x 1, by
    have h0 : x 0 = (0 : Fin 1) := Subsingleton.elim (α := Fin 1) _ _
    conv_lhs => rw [eq_ix2 x, h0]⟩
  unfold cntG ohB
  refine (cntc_at o b _ k).trans ?_
  congr 1
  refine Finset.sum_congr rfl fun r _ => ?_
  show _ = if BitVec.ofNat 32 ((Rect.unit (s := S1x8192) ![0, o] ![1, 512] inb).emb (ix2 0 k) 1).val = b (ix2 r 0) then _ else _
  rw [e1]
  rfl

section Words

variable (b : IVec S256x1 32) (q : Vec Ideal S1x512 .f32)

/-- The counts chunk from 0. -/
theorem c0 : k0_pay87 (F := Ideal) (ohc 0#32 b) q = cntc 0#32 b q := rfl
/-- The one-hot chunk from 512. -/
theorem e512 : k0_pay88 (F := Ideal) b = ohc 512#32 b := rfl
/-- The counts chunk from 512. -/
theorem c512 : k0_pay89 (F := Ideal) b q = cntc 512#32 b q := rfl
/-- The one-hot chunk from 1024. -/
theorem e1024 : k0_pay90 (F := Ideal) b = ohc 1024#32 b := rfl
/-- The counts chunk from 1024. -/
theorem c1024 : k0_pay91 (F := Ideal) (k0_pay90 b) q = cntc 1024#32 b q := rfl
/-- The one-hot chunk from 1536. -/
theorem e1536 : k0_pay92 (F := Ideal) b = ohc 1536#32 b := rfl
/-- The counts chunk from 1536. -/
theorem c1536 : k0_pay93 (F := Ideal) b q = cntc 1536#32 b q := rfl
/-- The one-hot chunk from 2048. -/
theorem e2048 : k0_pay94 (F := Ideal) b = ohc 2048#32 b := rfl
/-- The counts chunk from 2048. -/
theorem c2048 : k0_pay96 (F := Ideal) q (k0_pay95 b) = cntc 2048#32 b q := rfl
/-- The one-hot chunk from 2560. -/
theorem e2560 : k0_pay97 (F := Ideal) b = ohc 2560#32 b := rfl
/-- The counts chunk from 2560. -/
theorem c2560 : k0_pay98 (F := Ideal) b q = cntc 2560#32 b q := rfl
/-- The one-hot chunk from 3072. -/
theorem e3072 : k0_pay99 (F := Ideal) b = ohc 3072#32 b := rfl
/-- The counts chunk from 3072. -/
theorem c3072 : k0_pay101 (F := Ideal) (k0_pay100 b q) = cntc 3072#32 b q := rfl
/-- The one-hot chunk from 3584. -/
theorem e3584 : k0_pay102 (F := Ideal) b = ohc 3584#32 b := rfl
/-- The counts chunk from 3584. -/
theorem c3584 : k0_pay103 (F := Ideal) b q = cntc 3584#32 b q := rfl
/-- The one-hot chunk from 4096. -/
theorem e4096 : k0_pay104 (F := Ideal) b = ohc 4096#32 b := rfl
/-- The counts chunk from 4096. -/
theorem c4096 : k0_pay105 (F := Ideal) b q = cntc 4096#32 b q := rfl
/-- The one-hot chunk from 4608. -/
theorem e4608 : k0_pay106 (F := Ideal) b = ohc 4608#32 b := rfl
/-- The counts chunk from 4608. -/
theorem c4608 : k0_pay107 (F := Ideal) b q = cntc 4608#32 b q := rfl
/-- The one-hot chunk from 5120. -/
theorem e5120 : k0_pay108 (F := Ideal) b = ohc 5120#32 b := rfl
/-- The counts chunk from 5120. -/
theorem c5120 : k0_pay109 (F := Ideal) b q = cntc 5120#32 b q := rfl
/-- The one-hot chunk from 5632. -/
theorem e5632 : k0_pay111 (F := Ideal) b k0_pay110 = ohc 5632#32 b := rfl
/-- The counts chunk from 5632. -/
theorem c5632 : k0_pay112 (F := Ideal) b k0_pay110 q = cntc 5632#32 b q := rfl
/-- The one-hot chunk from 6144. -/
theorem e6144 : k0_pay113 (F := Ideal) b = ohc 6144#32 b := rfl
/-- The counts chunk from 6144. -/
theorem c6144 : k0_pay114 (F := Ideal) b q = cntc 6144#32 b q := rfl
/-- The one-hot chunk from 6656. -/
theorem e6656 : k0_pay116 (F := Ideal) (k0_pay115 b) (FloatOps.ofBits .f32 1065353216#32) (FloatOps.ofBits .f32 0#32) = ohc 6656#32 b := rfl
/-- The counts chunk from 6656. -/
theorem c6656 : k0_pay117 (F := Ideal) (k0_pay115 b) (FloatOps.ofBits .f32 1065353216#32) (FloatOps.ofBits .f32 0#32) q = cntc 6656#32 b q := rfl
/-- The one-hot chunk from 7168. -/
theorem e7168 : k0_pay118 (F := Ideal) b = ohc 7168#32 b := rfl
/-- The counts chunk from 7168. -/
theorem c7168 : k0_pay119 (F := Ideal) b q = cntc 7168#32 b q := rfl
/-- The one-hot chunk from 7680. -/
theorem e7680 : k0_pay120 (F := Ideal) b = ohc 7680#32 b := rfl
/-- The counts chunk from 7680. -/
theorem c7680 : k0_pay121 (F := Ideal) (k0_pay120 b) q = cntc 7680#32 b q := rfl

end Words

variable (b : IVec S256x1 32) (p : Vec Ideal S1x8192 .f32)

set_option maxHeartbeats 1000000 in
/-- The sixteen stores of the one-hot block are parts of it. -/
theorem enc_pieces : View.PiecesOf (Val := Elt Ideal) (s := S256x8192) (e := .f32) (ohB b)
    [⟨Rect.unit ![0, 7680] ![256, 512] inb_S256x8192_S256x512_0_7680, k0_pay120 (F := Ideal) b⟩,
    ⟨Rect.unit ![0, 7168] ![256, 512] inb_S256x8192_S256x512_0_7168, k0_pay118 (F := Ideal) b⟩,
    ⟨Rect.unit ![0, 6656] ![256, 512] inb_S256x8192_S256x512_0_6656, k0_pay116 (F := Ideal) (k0_pay115 b) (FloatOps.ofBits .f32 1065353216#32) (FloatOps.ofBits .f32 0#32)⟩,
    ⟨Rect.unit ![0, 6144] ![256, 512] inb_S256x8192_S256x512_0_6144, k0_pay113 (F := Ideal) b⟩,
    ⟨Rect.unit ![0, 5632] ![256, 512] inb_S256x8192_S256x512_0_5632, k0_pay111 (F := Ideal) b k0_pay110⟩,
    ⟨Rect.unit ![0, 5120] ![256, 512] inb_S256x8192_S256x512_0_5120, k0_pay108 (F := Ideal) b⟩,
    ⟨Rect.unit ![0, 4608] ![256, 512] inb_S256x8192_S256x512_0_4608, k0_pay106 (F := Ideal) b⟩,
    ⟨Rect.unit ![0, 4096] ![256, 512] inb_S256x8192_S256x512_0_4096, k0_pay104 (F := Ideal) b⟩,
    ⟨Rect.unit ![0, 3584] ![256, 512] inb_S256x8192_S256x512_0_3584, k0_pay102 (F := Ideal) b⟩,
    ⟨Rect.unit ![0, 3072] ![256, 512] inb_S256x8192_S256x512_0_3072, k0_pay99 (F := Ideal) b⟩,
    ⟨Rect.unit ![0, 2560] ![256, 512] inb_S256x8192_S256x512_0_2560, k0_pay97 (F := Ideal) b⟩,
    ⟨Rect.unit ![0, 2048] ![256, 512] inb_S256x8192_S256x512_0_2048, k0_pay94 (F := Ideal) b⟩,
    ⟨Rect.unit ![0, 1536] ![256, 512] inb_S256x8192_S256x512_0_1536, k0_pay92 (F := Ideal) b⟩,
    ⟨Rect.unit ![0, 1024] ![256, 512] inb_S256x8192_S256x512_0_1024, k0_pay90 (F := Ideal) b⟩,
    ⟨Rect.unit ![0, 512] ![256, 512] inb_S256x8192_S256x512_0_512, k0_pay88 (F := Ideal) b⟩,
    ⟨Rect.unit ![0, 0] ![256, 512] inb_S256x8192_S256x512_0_0, ohc 0#32 b⟩] := by
  rw [e512, e1024, e1536, e2048, e2560, e3072, e3584, e4096, e4608, e5120, e5632, e6144, e6656, e7168, e7680]
  have H := fun o ho inb x => enc_piece o ho inb b x
  generalize ohB b = g at H ⊢
  generalize ohc = f at H ⊢
  exact ⟨H 7680 (by decide) inb_S256x8192_S256x512_0_7680, H 7168 (by decide) inb_S256x8192_S256x512_0_7168, H 6656 (by decide) inb_S256x8192_S256x512_0_6656, H 6144 (by decide) inb_S256x8192_S256x512_0_6144, H 5632 (by decide) inb_S256x8192_S256x512_0_5632, H 5120 (by decide) inb_S256x8192_S256x512_0_5120, H 4608 (by decide) inb_S256x8192_S256x512_0_4608, H 4096 (by decide) inb_S256x8192_S256x512_0_4096, H 3584 (by decide) inb_S256x8192_S256x512_0_3584, H 3072 (by decide) inb_S256x8192_S256x512_0_3072, H 2560 (by decide) inb_S256x8192_S256x512_0_2560, H 2048 (by decide) inb_S256x8192_S256x512_0_2048, H 1536 (by decide) inb_S256x8192_S256x512_0_1536, H 1024 (by decide) inb_S256x8192_S256x512_0_1024, H 512 (by decide) inb_S256x8192_S256x512_0_512, H 0 (by decide) inb_S256x8192_S256x512_0_0, trivial⟩

/-- The sixteen stores of the one-hot block leave the one-hot block. -/
theorem enc_canon : View.canon (Val := Elt Ideal) (s := S256x8192) (e := .f32)
    [⟨Rect.unit ![0, 7680] ![256, 512] inb_S256x8192_S256x512_0_7680, k0_pay120 (F := Ideal) b⟩,
    ⟨Rect.unit ![0, 7168] ![256, 512] inb_S256x8192_S256x512_0_7168, k0_pay118 (F := Ideal) b⟩,
    ⟨Rect.unit ![0, 6656] ![256, 512] inb_S256x8192_S256x512_0_6656, k0_pay116 (F := Ideal) (k0_pay115 b) (FloatOps.ofBits .f32 1065353216#32) (FloatOps.ofBits .f32 0#32)⟩,
    ⟨Rect.unit ![0, 6144] ![256, 512] inb_S256x8192_S256x512_0_6144, k0_pay113 (F := Ideal) b⟩,
    ⟨Rect.unit ![0, 5632] ![256, 512] inb_S256x8192_S256x512_0_5632, k0_pay111 (F := Ideal) b k0_pay110⟩,
    ⟨Rect.unit ![0, 5120] ![256, 512] inb_S256x8192_S256x512_0_5120, k0_pay108 (F := Ideal) b⟩,
    ⟨Rect.unit ![0, 4608] ![256, 512] inb_S256x8192_S256x512_0_4608, k0_pay106 (F := Ideal) b⟩,
    ⟨Rect.unit ![0, 4096] ![256, 512] inb_S256x8192_S256x512_0_4096, k0_pay104 (F := Ideal) b⟩,
    ⟨Rect.unit ![0, 3584] ![256, 512] inb_S256x8192_S256x512_0_3584, k0_pay102 (F := Ideal) b⟩,
    ⟨Rect.unit ![0, 3072] ![256, 512] inb_S256x8192_S256x512_0_3072, k0_pay99 (F := Ideal) b⟩,
    ⟨Rect.unit ![0, 2560] ![256, 512] inb_S256x8192_S256x512_0_2560, k0_pay97 (F := Ideal) b⟩,
    ⟨Rect.unit ![0, 2048] ![256, 512] inb_S256x8192_S256x512_0_2048, k0_pay94 (F := Ideal) b⟩,
    ⟨Rect.unit ![0, 1536] ![256, 512] inb_S256x8192_S256x512_0_1536, k0_pay92 (F := Ideal) b⟩,
    ⟨Rect.unit ![0, 1024] ![256, 512] inb_S256x8192_S256x512_0_1024, k0_pay90 (F := Ideal) b⟩,
    ⟨Rect.unit ![0, 512] ![256, 512] inb_S256x8192_S256x512_0_512, k0_pay88 (F := Ideal) b⟩,
    ⟨Rect.unit ![0, 0] ![256, 512] inb_S256x8192_S256x512_0_0, ohc 0#32 b⟩] = ohB b := by
  funext y
  exact View.canon_append_of_piecesOf (Val := Elt Ideal) (e := .f32) (ohB b) [] _ (enc_pieces b) y
    (View.cover_of_tiled_head _ _ _ (by rfl) y)

/-- A load of the whole block after those stores reads the one-hot block. -/
theorem enc_read {sg : RefSig} {κ : Kind} {sp : Space} (v : View sg κ sp S256x8192 .f32) : v.readCov (Val := Elt Ideal)
    [⟨Rect.unit ![0, 7680] ![256, 512] inb_S256x8192_S256x512_0_7680, k0_pay120 (F := Ideal) b⟩,
    ⟨Rect.unit ![0, 7168] ![256, 512] inb_S256x8192_S256x512_0_7168, k0_pay118 (F := Ideal) b⟩,
    ⟨Rect.unit ![0, 6656] ![256, 512] inb_S256x8192_S256x512_0_6656, k0_pay116 (F := Ideal) (k0_pay115 b) (FloatOps.ofBits .f32 1065353216#32) (FloatOps.ofBits .f32 0#32)⟩,
    ⟨Rect.unit ![0, 6144] ![256, 512] inb_S256x8192_S256x512_0_6144, k0_pay113 (F := Ideal) b⟩,
    ⟨Rect.unit ![0, 5632] ![256, 512] inb_S256x8192_S256x512_0_5632, k0_pay111 (F := Ideal) b k0_pay110⟩,
    ⟨Rect.unit ![0, 5120] ![256, 512] inb_S256x8192_S256x512_0_5120, k0_pay108 (F := Ideal) b⟩,
    ⟨Rect.unit ![0, 4608] ![256, 512] inb_S256x8192_S256x512_0_4608, k0_pay106 (F := Ideal) b⟩,
    ⟨Rect.unit ![0, 4096] ![256, 512] inb_S256x8192_S256x512_0_4096, k0_pay104 (F := Ideal) b⟩,
    ⟨Rect.unit ![0, 3584] ![256, 512] inb_S256x8192_S256x512_0_3584, k0_pay102 (F := Ideal) b⟩,
    ⟨Rect.unit ![0, 3072] ![256, 512] inb_S256x8192_S256x512_0_3072, k0_pay99 (F := Ideal) b⟩,
    ⟨Rect.unit ![0, 2560] ![256, 512] inb_S256x8192_S256x512_0_2560, k0_pay97 (F := Ideal) b⟩,
    ⟨Rect.unit ![0, 2048] ![256, 512] inb_S256x8192_S256x512_0_2048, k0_pay94 (F := Ideal) b⟩,
    ⟨Rect.unit ![0, 1536] ![256, 512] inb_S256x8192_S256x512_0_1536, k0_pay92 (F := Ideal) b⟩,
    ⟨Rect.unit ![0, 1024] ![256, 512] inb_S256x8192_S256x512_0_1024, k0_pay90 (F := Ideal) b⟩,
    ⟨Rect.unit ![0, 512] ![256, 512] inb_S256x8192_S256x512_0_512, k0_pay88 (F := Ideal) b⟩,
    ⟨Rect.unit ![0, 0] ![256, 512] inb_S256x8192_S256x512_0_0, ohc 0#32 b⟩]
    (Rect.unit ![0, 0] ![256, 8192] inb_S256x8192_S256x8192_0_0).toLoadRect = ohB b := by
  rw [View.readCov_eq_canon', enc_canon]
  exact View.ld_unit_lit' (Val := Elt Ideal) (e := .f32) (S := S256x8192) inb_S256x8192_S256x8192_0_0 (ohB b) (by decide)

set_option maxHeartbeats 1000000 in
/-- The sixteen stores of the counts are parts of the counts after the point. -/
theorem cnt_pieces : View.PiecesOf (Val := Elt Ideal) (s := S1x8192) (e := .f32) (cntG b p)
    [⟨Rect.unit ![0, 7680] ![1, 512] inb_S1x8192_S1x512_0_7680, k0_pay121 (F := Ideal) (k0_pay120 b) (View.ld (Val := Elt Ideal) (S := S1x8192) (e' := .f32) p (Rect.unit ![0, 7680] ![1, 512] inb_S1x8192_S1x512_0_7680))⟩,
    ⟨Rect.unit ![0, 7168] ![1, 512] inb_S1x8192_S1x512_0_7168, k0_pay119 (F := Ideal) b (View.ld (Val := Elt Ideal) (S := S1x8192) (e' := .f32) p (Rect.unit ![0, 7168] ![1, 512] inb_S1x8192_S1x512_0_7168))⟩,
    ⟨Rect.unit ![0, 6656] ![1, 512] inb_S1x8192_S1x512_0_6656, k0_pay117 (F := Ideal) (k0_pay115 b) (FloatOps.ofBits .f32 1065353216#32) (FloatOps.ofBits .f32 0#32) (View.ld (Val := Elt Ideal) (S := S1x8192) (e' := .f32) p (Rect.unit ![0, 6656] ![1, 512] inb_S1x8192_S1x512_0_6656))⟩,
    ⟨Rect.unit ![0, 6144] ![1, 512] inb_S1x8192_S1x512_0_6144, k0_pay114 (F := Ideal) b (View.ld (Val := Elt Ideal) (S := S1x8192) (e' := .f32) p (Rect.unit ![0, 6144] ![1, 512] inb_S1x8192_S1x512_0_6144))⟩,
    ⟨Rect.unit ![0, 5632] ![1, 512] inb_S1x8192_S1x512_0_5632, k0_pay112 (F := Ideal) b k0_pay110 (View.ld (Val := Elt Ideal) (S := S1x8192) (e' := .f32) p (Rect.unit ![0, 5632] ![1, 512] inb_S1x8192_S1x512_0_5632))⟩,
    ⟨Rect.unit ![0, 5120] ![1, 512] inb_S1x8192_S1x512_0_5120, k0_pay109 (F := Ideal) b (View.ld (Val := Elt Ideal) (S := S1x8192) (e' := .f32) p (Rect.unit ![0, 5120] ![1, 512] inb_S1x8192_S1x512_0_5120))⟩,
    ⟨Rect.unit ![0, 4608] ![1, 512] inb_S1x8192_S1x512_0_4608, k0_pay107 (F := Ideal) b (View.ld (Val := Elt Ideal) (S := S1x8192) (e' := .f32) p (Rect.unit ![0, 4608] ![1, 512] inb_S1x8192_S1x512_0_4608))⟩,
    ⟨Rect.unit ![0, 4096] ![1, 512] inb_S1x8192_S1x512_0_4096, k0_pay105 (F := Ideal) b (View.ld (Val := Elt Ideal) (S := S1x8192) (e' := .f32) p (Rect.unit ![0, 4096] ![1, 512] inb_S1x8192_S1x512_0_4096))⟩,
    ⟨Rect.unit ![0, 3584] ![1, 512] inb_S1x8192_S1x512_0_3584, k0_pay103 (F := Ideal) b (View.ld (Val := Elt Ideal) (S := S1x8192) (e' := .f32) p (Rect.unit ![0, 3584] ![1, 512] inb_S1x8192_S1x512_0_3584))⟩,
    ⟨Rect.unit ![0, 3072] ![1, 512] inb_S1x8192_S1x512_0_3072, k0_pay101 (F := Ideal) (k0_pay100 b (View.ld (Val := Elt Ideal) (S := S1x8192) (e' := .f32) p (Rect.unit ![0, 3072] ![1, 512] inb_S1x8192_S1x512_0_3072)))⟩,
    ⟨Rect.unit ![0, 2560] ![1, 512] inb_S1x8192_S1x512_0_2560, k0_pay98 (F := Ideal) b (View.ld (Val := Elt Ideal) (S := S1x8192) (e' := .f32) p (Rect.unit ![0, 2560] ![1, 512] inb_S1x8192_S1x512_0_2560))⟩,
    ⟨Rect.unit ![0, 2048] ![1, 512] inb_S1x8192_S1x512_0_2048, k0_pay96 (F := Ideal) (View.ld (Val := Elt Ideal) (S := S1x8192) (e' := .f32) p (Rect.unit ![0, 2048] ![1, 512] inb_S1x8192_S1x512_0_2048)) (k0_pay95 b)⟩,
    ⟨Rect.unit ![0, 1536] ![1, 512] inb_S1x8192_S1x512_0_1536, k0_pay93 (F := Ideal) b (View.ld (Val := Elt Ideal) (S := S1x8192) (e' := .f32) p (Rect.unit ![0, 1536] ![1, 512] inb_S1x8192_S1x512_0_1536))⟩,
    ⟨Rect.unit ![0, 1024] ![1, 512] inb_S1x8192_S1x512_0_1024, k0_pay91 (F := Ideal) (k0_pay90 b) (View.ld (Val := Elt Ideal) (S := S1x8192) (e' := .f32) p (Rect.unit ![0, 1024] ![1, 512] inb_S1x8192_S1x512_0_1024))⟩,
    ⟨Rect.unit ![0, 512] ![1, 512] inb_S1x8192_S1x512_0_512, k0_pay89 (F := Ideal) b (View.ld (Val := Elt Ideal) (S := S1x8192) (e' := .f32) p (Rect.unit ![0, 512] ![1, 512] inb_S1x8192_S1x512_0_512))⟩,
    ⟨Rect.unit ![0, 0] ![1, 512] inb_S1x8192_S1x512_0_0, k0_pay87 (F := Ideal) (ohc 0#32 b) (View.ld (Val := Elt Ideal) (S := S1x8192) (e' := .f32) p (Rect.unit ![0, 0] ![1, 512] inb_S1x8192_S1x512_0_0))⟩] := by
  rw [c0, c512, c1024, c1536, c2048, c2560, c3072, c3584, c4096, c4608, c5120, c5632, c6144, c6656, c7168, c7680]
  have H := fun o ho inb x => cnt_piece o ho inb b p x
  generalize cntG b p = g at H ⊢
  generalize cntc = f at H ⊢
  exact ⟨H 7680 (by decide) inb_S1x8192_S1x512_0_7680, H 7168 (by decide) inb_S1x8192_S1x512_0_7168, H 6656 (by decide) inb_S1x8192_S1x512_0_6656, H 6144 (by decide) inb_S1x8192_S1x512_0_6144, H 5632 (by decide) inb_S1x8192_S1x512_0_5632, H 5120 (by decide) inb_S1x8192_S1x512_0_5120, H 4608 (by decide) inb_S1x8192_S1x512_0_4608, H 4096 (by decide) inb_S1x8192_S1x512_0_4096, H 3584 (by decide) inb_S1x8192_S1x512_0_3584, H 3072 (by decide) inb_S1x8192_S1x512_0_3072, H 2560 (by decide) inb_S1x8192_S1x512_0_2560, H 2048 (by decide) inb_S1x8192_S1x512_0_2048, H 1536 (by decide) inb_S1x8192_S1x512_0_1536, H 1024 (by decide) inb_S1x8192_S1x512_0_1024, H 512 (by decide) inb_S1x8192_S1x512_0_512, H 0 (by decide) inb_S1x8192_S1x512_0_0, trivial⟩

/-- The sixteen stores of the counts leave the counts after the point. -/
theorem cnt_canon : View.canon (Val := Elt Ideal) (s := S1x8192) (e := .f32)
    [⟨Rect.unit ![0, 7680] ![1, 512] inb_S1x8192_S1x512_0_7680, k0_pay121 (F := Ideal) (k0_pay120 b) (View.ld (Val := Elt Ideal) (S := S1x8192) (e' := .f32) p (Rect.unit ![0, 7680] ![1, 512] inb_S1x8192_S1x512_0_7680))⟩,
    ⟨Rect.unit ![0, 7168] ![1, 512] inb_S1x8192_S1x512_0_7168, k0_pay119 (F := Ideal) b (View.ld (Val := Elt Ideal) (S := S1x8192) (e' := .f32) p (Rect.unit ![0, 7168] ![1, 512] inb_S1x8192_S1x512_0_7168))⟩,
    ⟨Rect.unit ![0, 6656] ![1, 512] inb_S1x8192_S1x512_0_6656, k0_pay117 (F := Ideal) (k0_pay115 b) (FloatOps.ofBits .f32 1065353216#32) (FloatOps.ofBits .f32 0#32) (View.ld (Val := Elt Ideal) (S := S1x8192) (e' := .f32) p (Rect.unit ![0, 6656] ![1, 512] inb_S1x8192_S1x512_0_6656))⟩,
    ⟨Rect.unit ![0, 6144] ![1, 512] inb_S1x8192_S1x512_0_6144, k0_pay114 (F := Ideal) b (View.ld (Val := Elt Ideal) (S := S1x8192) (e' := .f32) p (Rect.unit ![0, 6144] ![1, 512] inb_S1x8192_S1x512_0_6144))⟩,
    ⟨Rect.unit ![0, 5632] ![1, 512] inb_S1x8192_S1x512_0_5632, k0_pay112 (F := Ideal) b k0_pay110 (View.ld (Val := Elt Ideal) (S := S1x8192) (e' := .f32) p (Rect.unit ![0, 5632] ![1, 512] inb_S1x8192_S1x512_0_5632))⟩,
    ⟨Rect.unit ![0, 5120] ![1, 512] inb_S1x8192_S1x512_0_5120, k0_pay109 (F := Ideal) b (View.ld (Val := Elt Ideal) (S := S1x8192) (e' := .f32) p (Rect.unit ![0, 5120] ![1, 512] inb_S1x8192_S1x512_0_5120))⟩,
    ⟨Rect.unit ![0, 4608] ![1, 512] inb_S1x8192_S1x512_0_4608, k0_pay107 (F := Ideal) b (View.ld (Val := Elt Ideal) (S := S1x8192) (e' := .f32) p (Rect.unit ![0, 4608] ![1, 512] inb_S1x8192_S1x512_0_4608))⟩,
    ⟨Rect.unit ![0, 4096] ![1, 512] inb_S1x8192_S1x512_0_4096, k0_pay105 (F := Ideal) b (View.ld (Val := Elt Ideal) (S := S1x8192) (e' := .f32) p (Rect.unit ![0, 4096] ![1, 512] inb_S1x8192_S1x512_0_4096))⟩,
    ⟨Rect.unit ![0, 3584] ![1, 512] inb_S1x8192_S1x512_0_3584, k0_pay103 (F := Ideal) b (View.ld (Val := Elt Ideal) (S := S1x8192) (e' := .f32) p (Rect.unit ![0, 3584] ![1, 512] inb_S1x8192_S1x512_0_3584))⟩,
    ⟨Rect.unit ![0, 3072] ![1, 512] inb_S1x8192_S1x512_0_3072, k0_pay101 (F := Ideal) (k0_pay100 b (View.ld (Val := Elt Ideal) (S := S1x8192) (e' := .f32) p (Rect.unit ![0, 3072] ![1, 512] inb_S1x8192_S1x512_0_3072)))⟩,
    ⟨Rect.unit ![0, 2560] ![1, 512] inb_S1x8192_S1x512_0_2560, k0_pay98 (F := Ideal) b (View.ld (Val := Elt Ideal) (S := S1x8192) (e' := .f32) p (Rect.unit ![0, 2560] ![1, 512] inb_S1x8192_S1x512_0_2560))⟩,
    ⟨Rect.unit ![0, 2048] ![1, 512] inb_S1x8192_S1x512_0_2048, k0_pay96 (F := Ideal) (View.ld (Val := Elt Ideal) (S := S1x8192) (e' := .f32) p (Rect.unit ![0, 2048] ![1, 512] inb_S1x8192_S1x512_0_2048)) (k0_pay95 b)⟩,
    ⟨Rect.unit ![0, 1536] ![1, 512] inb_S1x8192_S1x512_0_1536, k0_pay93 (F := Ideal) b (View.ld (Val := Elt Ideal) (S := S1x8192) (e' := .f32) p (Rect.unit ![0, 1536] ![1, 512] inb_S1x8192_S1x512_0_1536))⟩,
    ⟨Rect.unit ![0, 1024] ![1, 512] inb_S1x8192_S1x512_0_1024, k0_pay91 (F := Ideal) (k0_pay90 b) (View.ld (Val := Elt Ideal) (S := S1x8192) (e' := .f32) p (Rect.unit ![0, 1024] ![1, 512] inb_S1x8192_S1x512_0_1024))⟩,
    ⟨Rect.unit ![0, 512] ![1, 512] inb_S1x8192_S1x512_0_512, k0_pay89 (F := Ideal) b (View.ld (Val := Elt Ideal) (S := S1x8192) (e' := .f32) p (Rect.unit ![0, 512] ![1, 512] inb_S1x8192_S1x512_0_512))⟩,
    ⟨Rect.unit ![0, 0] ![1, 512] inb_S1x8192_S1x512_0_0, k0_pay87 (F := Ideal) (ohc 0#32 b) (View.ld (Val := Elt Ideal) (S := S1x8192) (e' := .f32) p (Rect.unit ![0, 0] ![1, 512] inb_S1x8192_S1x512_0_0))⟩] = cntG b p := by
  funext y
  exact View.canon_append_of_piecesOf (Val := Elt Ideal) (e := .f32) (cntG b p) [] _ (cnt_pieces b p) y
    (View.cover_of_tiled_head _ _ _ (by rfl) y)

/-- So they do after a fill of the whole buffer. -/
theorem cnt_canon_fill (w : Vec Ideal S1x8192 .f32) : View.canon (Val := Elt Ideal) (s := S1x8192) (e := .f32)
    [⟨Rect.unit ![0, 7680] ![1, 512] inb_S1x8192_S1x512_0_7680, k0_pay121 (F := Ideal) (k0_pay120 b) (View.ld (Val := Elt Ideal) (S := S1x8192) (e' := .f32) p (Rect.unit ![0, 7680] ![1, 512] inb_S1x8192_S1x512_0_7680))⟩,
    ⟨Rect.unit ![0, 7168] ![1, 512] inb_S1x8192_S1x512_0_7168, k0_pay119 (F := Ideal) b (View.ld (Val := Elt Ideal) (S := S1x8192) (e' := .f32) p (Rect.unit ![0, 7168] ![1, 512] inb_S1x8192_S1x512_0_7168))⟩,
    ⟨Rect.unit ![0, 6656] ![1, 512] inb_S1x8192_S1x512_0_6656, k0_pay117 (F := Ideal) (k0_pay115 b) (FloatOps.ofBits .f32 1065353216#32) (FloatOps.ofBits .f32 0#32) (View.ld (Val := Elt Ideal) (S := S1x8192) (e' := .f32) p (Rect.unit ![0, 6656] ![1, 512] inb_S1x8192_S1x512_0_6656))⟩,
    ⟨Rect.unit ![0, 6144] ![1, 512] inb_S1x8192_S1x512_0_6144, k0_pay114 (F := Ideal) b (View.ld (Val := Elt Ideal) (S := S1x8192) (e' := .f32) p (Rect.unit ![0, 6144] ![1, 512] inb_S1x8192_S1x512_0_6144))⟩,
    ⟨Rect.unit ![0, 5632] ![1, 512] inb_S1x8192_S1x512_0_5632, k0_pay112 (F := Ideal) b k0_pay110 (View.ld (Val := Elt Ideal) (S := S1x8192) (e' := .f32) p (Rect.unit ![0, 5632] ![1, 512] inb_S1x8192_S1x512_0_5632))⟩,
    ⟨Rect.unit ![0, 5120] ![1, 512] inb_S1x8192_S1x512_0_5120, k0_pay109 (F := Ideal) b (View.ld (Val := Elt Ideal) (S := S1x8192) (e' := .f32) p (Rect.unit ![0, 5120] ![1, 512] inb_S1x8192_S1x512_0_5120))⟩,
    ⟨Rect.unit ![0, 4608] ![1, 512] inb_S1x8192_S1x512_0_4608, k0_pay107 (F := Ideal) b (View.ld (Val := Elt Ideal) (S := S1x8192) (e' := .f32) p (Rect.unit ![0, 4608] ![1, 512] inb_S1x8192_S1x512_0_4608))⟩,
    ⟨Rect.unit ![0, 4096] ![1, 512] inb_S1x8192_S1x512_0_4096, k0_pay105 (F := Ideal) b (View.ld (Val := Elt Ideal) (S := S1x8192) (e' := .f32) p (Rect.unit ![0, 4096] ![1, 512] inb_S1x8192_S1x512_0_4096))⟩,
    ⟨Rect.unit ![0, 3584] ![1, 512] inb_S1x8192_S1x512_0_3584, k0_pay103 (F := Ideal) b (View.ld (Val := Elt Ideal) (S := S1x8192) (e' := .f32) p (Rect.unit ![0, 3584] ![1, 512] inb_S1x8192_S1x512_0_3584))⟩,
    ⟨Rect.unit ![0, 3072] ![1, 512] inb_S1x8192_S1x512_0_3072, k0_pay101 (F := Ideal) (k0_pay100 b (View.ld (Val := Elt Ideal) (S := S1x8192) (e' := .f32) p (Rect.unit ![0, 3072] ![1, 512] inb_S1x8192_S1x512_0_3072)))⟩,
    ⟨Rect.unit ![0, 2560] ![1, 512] inb_S1x8192_S1x512_0_2560, k0_pay98 (F := Ideal) b (View.ld (Val := Elt Ideal) (S := S1x8192) (e' := .f32) p (Rect.unit ![0, 2560] ![1, 512] inb_S1x8192_S1x512_0_2560))⟩,
    ⟨Rect.unit ![0, 2048] ![1, 512] inb_S1x8192_S1x512_0_2048, k0_pay96 (F := Ideal) (View.ld (Val := Elt Ideal) (S := S1x8192) (e' := .f32) p (Rect.unit ![0, 2048] ![1, 512] inb_S1x8192_S1x512_0_2048)) (k0_pay95 b)⟩,
    ⟨Rect.unit ![0, 1536] ![1, 512] inb_S1x8192_S1x512_0_1536, k0_pay93 (F := Ideal) b (View.ld (Val := Elt Ideal) (S := S1x8192) (e' := .f32) p (Rect.unit ![0, 1536] ![1, 512] inb_S1x8192_S1x512_0_1536))⟩,
    ⟨Rect.unit ![0, 1024] ![1, 512] inb_S1x8192_S1x512_0_1024, k0_pay91 (F := Ideal) (k0_pay90 b) (View.ld (Val := Elt Ideal) (S := S1x8192) (e' := .f32) p (Rect.unit ![0, 1024] ![1, 512] inb_S1x8192_S1x512_0_1024))⟩,
    ⟨Rect.unit ![0, 512] ![1, 512] inb_S1x8192_S1x512_0_512, k0_pay89 (F := Ideal) b (View.ld (Val := Elt Ideal) (S := S1x8192) (e' := .f32) p (Rect.unit ![0, 512] ![1, 512] inb_S1x8192_S1x512_0_512))⟩,
    ⟨Rect.unit ![0, 0] ![1, 512] inb_S1x8192_S1x512_0_0, k0_pay87 (F := Ideal) (ohc 0#32 b) (View.ld (Val := Elt Ideal) (S := S1x8192) (e' := .f32) p (Rect.unit ![0, 0] ![1, 512] inb_S1x8192_S1x512_0_0))⟩,
    ⟨Rect.unit ![0, 0] ![1, 8192] inb_S1x8192_S1x8192_0_0, w⟩] = cntG b p := by
  funext y
  exact View.canon_append_of_piecesOf (Val := Elt Ideal) (e := .f32) (cntG b p) [⟨Rect.unit ![0, 0] ![1, 8192] inb_S1x8192_S1x8192_0_0, w⟩] _ (cnt_pieces b p) y
    (View.cover_of_tiled_head _ _ _ (by rfl) y)

/-- A load of the whole buffer after the stores of the counts reads the counts after the point. -/
theorem cnt_read {sg : RefSig} {κ : Kind} {sp : Space} (v : View sg κ sp S1x8192 .f32) : v.readCov (Val := Elt Ideal)
    [⟨Rect.unit ![0, 7680] ![1, 512] inb_S1x8192_S1x512_0_7680, k0_pay121 (F := Ideal) (k0_pay120 b) (View.ld (Val := Elt Ideal) (S := S1x8192) (e' := .f32) p (Rect.unit ![0, 7680] ![1, 512] inb_S1x8192_S1x512_0_7680))⟩,
    ⟨Rect.unit ![0, 7168] ![1, 512] inb_S1x8192_S1x512_0_7168, k0_pay119 (F := Ideal) b (View.ld (Val := Elt Ideal) (S := S1x8192) (e' := .f32) p (Rect.unit ![0, 7168] ![1, 512] inb_S1x8192_S1x512_0_7168))⟩,
    ⟨Rect.unit ![0, 6656] ![1, 512] inb_S1x8192_S1x512_0_6656, k0_pay117 (F := Ideal) (k0_pay115 b) (FloatOps.ofBits .f32 1065353216#32) (FloatOps.ofBits .f32 0#32) (View.ld (Val := Elt Ideal) (S := S1x8192) (e' := .f32) p (Rect.unit ![0, 6656] ![1, 512] inb_S1x8192_S1x512_0_6656))⟩,
    ⟨Rect.unit ![0, 6144] ![1, 512] inb_S1x8192_S1x512_0_6144, k0_pay114 (F := Ideal) b (View.ld (Val := Elt Ideal) (S := S1x8192) (e' := .f32) p (Rect.unit ![0, 6144] ![1, 512] inb_S1x8192_S1x512_0_6144))⟩,
    ⟨Rect.unit ![0, 5632] ![1, 512] inb_S1x8192_S1x512_0_5632, k0_pay112 (F := Ideal) b k0_pay110 (View.ld (Val := Elt Ideal) (S := S1x8192) (e' := .f32) p (Rect.unit ![0, 5632] ![1, 512] inb_S1x8192_S1x512_0_5632))⟩,
    ⟨Rect.unit ![0, 5120] ![1, 512] inb_S1x8192_S1x512_0_5120, k0_pay109 (F := Ideal) b (View.ld (Val := Elt Ideal) (S := S1x8192) (e' := .f32) p (Rect.unit ![0, 5120] ![1, 512] inb_S1x8192_S1x512_0_5120))⟩,
    ⟨Rect.unit ![0, 4608] ![1, 512] inb_S1x8192_S1x512_0_4608, k0_pay107 (F := Ideal) b (View.ld (Val := Elt Ideal) (S := S1x8192) (e' := .f32) p (Rect.unit ![0, 4608] ![1, 512] inb_S1x8192_S1x512_0_4608))⟩,
    ⟨Rect.unit ![0, 4096] ![1, 512] inb_S1x8192_S1x512_0_4096, k0_pay105 (F := Ideal) b (View.ld (Val := Elt Ideal) (S := S1x8192) (e' := .f32) p (Rect.unit ![0, 4096] ![1, 512] inb_S1x8192_S1x512_0_4096))⟩,
    ⟨Rect.unit ![0, 3584] ![1, 512] inb_S1x8192_S1x512_0_3584, k0_pay103 (F := Ideal) b (View.ld (Val := Elt Ideal) (S := S1x8192) (e' := .f32) p (Rect.unit ![0, 3584] ![1, 512] inb_S1x8192_S1x512_0_3584))⟩,
    ⟨Rect.unit ![0, 3072] ![1, 512] inb_S1x8192_S1x512_0_3072, k0_pay101 (F := Ideal) (k0_pay100 b (View.ld (Val := Elt Ideal) (S := S1x8192) (e' := .f32) p (Rect.unit ![0, 3072] ![1, 512] inb_S1x8192_S1x512_0_3072)))⟩,
    ⟨Rect.unit ![0, 2560] ![1, 512] inb_S1x8192_S1x512_0_2560, k0_pay98 (F := Ideal) b (View.ld (Val := Elt Ideal) (S := S1x8192) (e' := .f32) p (Rect.unit ![0, 2560] ![1, 512] inb_S1x8192_S1x512_0_2560))⟩,
    ⟨Rect.unit ![0, 2048] ![1, 512] inb_S1x8192_S1x512_0_2048, k0_pay96 (F := Ideal) (View.ld (Val := Elt Ideal) (S := S1x8192) (e' := .f32) p (Rect.unit ![0, 2048] ![1, 512] inb_S1x8192_S1x512_0_2048)) (k0_pay95 b)⟩,
    ⟨Rect.unit ![0, 1536] ![1, 512] inb_S1x8192_S1x512_0_1536, k0_pay93 (F := Ideal) b (View.ld (Val := Elt Ideal) (S := S1x8192) (e' := .f32) p (Rect.unit ![0, 1536] ![1, 512] inb_S1x8192_S1x512_0_1536))⟩,
    ⟨Rect.unit ![0, 1024] ![1, 512] inb_S1x8192_S1x512_0_1024, k0_pay91 (F := Ideal) (k0_pay90 b) (View.ld (Val := Elt Ideal) (S := S1x8192) (e' := .f32) p (Rect.unit ![0, 1024] ![1, 512] inb_S1x8192_S1x512_0_1024))⟩,
    ⟨Rect.unit ![0, 512] ![1, 512] inb_S1x8192_S1x512_0_512, k0_pay89 (F := Ideal) b (View.ld (Val := Elt Ideal) (S := S1x8192) (e' := .f32) p (Rect.unit ![0, 512] ![1, 512] inb_S1x8192_S1x512_0_512))⟩,
    ⟨Rect.unit ![0, 0] ![1, 512] inb_S1x8192_S1x512_0_0, k0_pay87 (F := Ideal) (ohc 0#32 b) (View.ld (Val := Elt Ideal) (S := S1x8192) (e' := .f32) p (Rect.unit ![0, 0] ![1, 512] inb_S1x8192_S1x512_0_0))⟩]
    (Rect.unit ![0, 0] ![1, 8192] inb_S1x8192_S1x8192_0_0).toLoadRect = cntG b p := by
  rw [View.readCov_eq_canon', cnt_canon]
  exact View.ld_unit_lit' (Val := Elt Ideal) (e := .f32) (S := S1x8192) inb_S1x8192_S1x8192_0_0 (cntG b p) (by decide)

end Cert.Proof.Blk
-- ==== Proof.Pt.lean ====
module

public import proofs.«01_k».proof.Proof.Gen.KernelIdeal.Frame
public import proofs.«01_k».proof.Proof.Hot
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

/-! What one grid point leaves in each output block and in the two running sums, as named terms over the point's input
    blocks and what the point before left. -/

namespace Cert.Proof.Pt

open Idealize.ShloMosaic Idealize.ShloMosaic.TcCoe Idealize.SL.Sem
open Idealize.ShloMosaic.Pipeline (Dat)
open Cert.KernelIdeal Cert.KernelIdeal.Gen
open Cert.Proof.Blk

variable (m : (ℓ : Loc nD τ sig) → Buf (Elt Ideal) ℓ) (c : Dev nD) (t : Fin cfg0.N)

/-- The index block of the point. -/
def bI : IVec S256x1 32 := best (iblk m c 0 t) (iblk m c 2 t) (iblk m c 3 t)
/-- The quantised block of the point. -/
def zqB : Vec Ideal S256x32 .f32 := k0_pay122 (F := Ideal) (k0_pay4 (iblk m c 0 t)) (ohB (bI m c t)) (iblk m c 1 t)
/-- The point's sum of squared differences. -/
def sqB : Vec Ideal S1x1x1 .f32 := k0_pay123 (F := Ideal) (k0_pay4 (iblk m c 0 t)) (ohB (bI m c t)) (iblk m c 1 t)

/-- At the first point: the one-hot block. -/
theorem encA (h0 : t.val % 32 = 0) (h1 : ¬t.val % 32 = 31) : (outsAt0 m c t.val t.isLt).1 = ohB (bI m c t) := by
  rw [outsAt0_A m c t h0 h1]
  frame_out [↓View.readCov_skip, View.readCov_fill]
  rw [pay86_eq (iblk m c 0 t) (iblk m c 2 t) (iblk m c 3 t), pay85_eq (iblk m c 0 t) (iblk m c 2 t) (iblk m c 3 t)]
  exact enc_canon _

/-- At the first point: the quantised block. -/
theorem zqvA (h0 : t.val % 32 = 0) (h1 : ¬t.val % 32 = 31) : (outsAt0 m c t.val t.isLt).2.1 = zqB m c t := by
  rw [outsAt0_A m c t h0 h1]
  frame_out [↓View.readCov_skip, View.readCov_fill]
  rw [pay86_eq (iblk m c 0 t) (iblk m c 2 t) (iblk m c 3 t), pay85_eq (iblk m c 0 t) (iblk m c 2 t) (iblk m c 3 t)]
  rw [enc_read]
  rfl

/-- At the first point: the index block. -/
theorem idxA (h0 : t.val % 32 = 0) (h1 : ¬t.val % 32 = 31) : (outsAt0 m c t.val t.isLt).2.2.1 = bI m c t := by
  rw [outsAt0_A m c t h0 h1]
  frame_out [↓View.readCov_skip, View.readCov_fill]
  exact pay85_eq _ _ _

/-- At the first point: the counts. -/
theorem cntA (h0 : t.val % 32 = 0) (h1 : ¬t.val % 32 = 31) : (outsAt0 m c t.val t.isLt).2.2.2.2.2.1 = cntG (bI m c t) (k0_pay8 (F := Ideal)) := by
  rw [outsAt0_A m c t h0 h1]
  frame_out [↓View.readCov_skip, View.readCov_fill]
  rw [pay86_eq (iblk m c 0 t) (iblk m c 2 t) (iblk m c 3 t), pay85_eq (iblk m c 0 t) (iblk m c 2 t) (iblk m c 3 t)]
  exact cnt_canon_fill _ _ _

/-- At the first point: the running sum of squares. -/
theorem accA (h0 : t.val % 32 = 0) (h1 : ¬t.val % 32 = 31) : (outsAt0 m c t.val t.isLt).2.2.2.2.2.2 = k0_pay1 (F := Ideal) (k0_pay9 (F := Ideal)) (sqB m c t) := by
  rw [outsAt0_A m c t h0 h1]
  frame_out [↓View.readCov_skip, View.readCov_fill]
  rw [pay86_eq (iblk m c 0 t) (iblk m c 2 t) (iblk m c 3 t), pay85_eq (iblk m c 0 t) (iblk m c 2 t) (iblk m c 3 t)]
  rw [enc_read]
  rfl

/-- At a middle point: the one-hot block. -/
theorem encB (h0 : ¬t.val % 32 = 0) (h1 : ¬t.val % 32 = 31) : (outsAt0 m c t.val t.isLt).1 = ohB (bI m c t) := by
  rw [outsAt0_B m c t h0 h1]
  frame_out [↓View.readCov_skip, View.readCov_fill]
  rw [pay86_eq (iblk m c 0 t) (iblk m c 2 t) (iblk m c 3 t), pay85_eq (iblk m c 0 t) (iblk m c 2 t) (iblk m c 3 t)]
  exact enc_canon _

/-- At a middle point: the quantised block. -/
theorem zqvB (h0 : ¬t.val % 32 = 0) (h1 : ¬t.val % 32 = 31) : (outsAt0 m c t.val t.isLt).2.1 = zqB m c t := by
  rw [outsAt0_B m c t h0 h1]
  frame_out [↓View.readCov_skip, View.readCov_fill]
  rw [pay86_eq (iblk m c 0 t) (iblk m c 2 t) (iblk m c 3 t), pay85_eq (iblk m c 0 t) (iblk m c 2 t) (iblk m c 3 t)]
  rw [enc_read]
  rfl

/-- At a middle point: the index block. -/
theorem idxB (h0 : ¬t.val % 32 = 0) (h1 : ¬t.val % 32 = 31) : (outsAt0 m c t.val t.isLt).2.2.1 = bI m c t := by
  rw [outsAt0_B m c t h0 h1]
  frame_out [↓View.readCov_skip, View.readCov_fill]
  exact pay85_eq _ _ _

/-- At a middle point: the counts. -/
theorem cntB (h0 : ¬t.val % 32 = 0) (h1 : ¬t.val % 32 = 31) : (outsAt0 m c t.val t.isLt).2.2.2.2.2.1 = cntG (bI m c t) (outsAt0 m c (t.val - 1) (Nat.lt_of_le_of_lt (Nat.sub_le _ _) t.isLt)).2.2.2.2.2.1 := by
  rw [outsAt0_B m c t h0 h1]
  frame_out [↓View.readCov_skip, View.readCov_fill]
  rw [pay86_eq (iblk m c 0 t) (iblk m c 2 t) (iblk m c 3 t), pay85_eq (iblk m c 0 t) (iblk m c 2 t) (iblk m c 3 t)]
  simp only [read_unread_whole]
  exact cnt_canon _ _

/-- At a middle point: the running sum of squares. -/
theorem accB (h0 : ¬t.val % 32 = 0) (h1 : ¬t.val % 32 = 31) : (outsAt0 m c t.val t.isLt).2.2.2.2.2.2 = k0_pay1 (F := Ideal) (outsAt0 m c (t.val - 1) (Nat.lt_of_le_of_lt (Nat.sub_le _ _) t.isLt)).2.2.2.2.2.2 (sqB m c t) := by
  rw [outsAt0_B m c t h0 h1]
  frame_out [↓View.readCov_skip, View.readCov_fill]
  rw [pay86_eq (iblk m c 0 t) (iblk m c 2 t) (iblk m c 3 t), pay85_eq (iblk m c 0 t) (iblk m c 2 t) (iblk m c 3 t)]
  rw [enc_read]
  rw [read_unread_whole]
  rfl

/-- At the last point: the one-hot block. -/
theorem encC (h0 : ¬t.val % 32 = 0) (h1 : t.val % 32 = 31) : (outsAt0 m c t.val t.isLt).1 = ohB (bI m c t) := by
  rw [outsAt0_C m c t h0 h1]
  frame_out [↓View.readCov_skip, View.readCov_fill]
  rw [pay86_eq (iblk m c 0 t) (iblk m c 2 t) (iblk m c 3 t), pay85_eq (iblk m c 0 t) (iblk m c 2 t) (iblk m c 3 t)]
  exact enc_canon _

/-- At the last point: the quantised block. -/
theorem zqvC (h0 : ¬t.val % 32 = 0) (h1 : t.val % 32 = 31) : (outsAt0 m c t.val t.isLt).2.1 = zqB m c t := by
  rw [outsAt0_C m c t h0 h1]
  frame_out [↓View.readCov_skip, View.readCov_fill]
  rw [pay86_eq (iblk m c 0 t) (iblk m c 2 t) (iblk m c 3 t), pay85_eq (iblk m c 0 t) (iblk m c 2 t) (iblk m c 3 t)]
  rw [enc_read]
  rfl

/-- At the last point: the index block. -/
theorem idxC (h0 : ¬t.val % 32 = 0) (h1 : t.val % 32 = 31) : (outsAt0 m c t.val t.isLt).2.2.1 = bI m c t := by
  rw [outsAt0_C m c t h0 h1]
  frame_out [↓View.readCov_skip, View.readCov_fill]
  exact pay85_eq _ _ _

/-- At the last point: the counts. -/
theorem cntC (h0 : ¬t.val % 32 = 0) (h1 : t.val % 32 = 31) : (outsAt0 m c t.val t.isLt).2.2.2.2.2.1 = cntG (bI m c t) (outsAt0 m c (t.val - 1) (Nat.lt_of_le_of_lt (Nat.sub_le _ _) t.isLt)).2.2.2.2.2.1 := by
  rw [outsAt0_C m c t h0 h1]
  frame_out [↓View.readCov_skip, View.readCov_fill]
  rw [pay86_eq (iblk m c 0 t) (iblk m c 2 t) (iblk m c 3 t), pay85_eq (iblk m c 0 t) (iblk m c 2 t) (iblk m c 3 t)]
  simp only [read_unread_whole]
  exact cnt_canon _ _

/-- At the last point: the running sum of squares. -/
theorem accC (h0 : ¬t.val % 32 = 0) (h1 : t.val % 32 = 31) : (outsAt0 m c t.val t.isLt).2.2.2.2.2.2 = k0_pay1 (F := Ideal) (outsAt0 m c (t.val - 1) (Nat.lt_of_le_of_lt (Nat.sub_le _ _) t.isLt)).2.2.2.2.2.2 (sqB m c t) := by
  rw [outsAt0_C m c t h0 h1]
  frame_out [↓View.readCov_skip, View.readCov_fill]
  rw [pay86_eq (iblk m c 0 t) (iblk m c 2 t) (iblk m c 3 t), pay85_eq (iblk m c 0 t) (iblk m c 2 t) (iblk m c 3 t)]
  rw [enc_read]
  rw [read_unread_whole]
  rfl

/-- At the last point: the loss block. -/
theorem lossC (h0 : ¬t.val % 32 = 0) (h1 : t.val % 32 = 31) : (outsAt0 m c t.val t.isLt).2.2.2.1 = k0_pay2 (F := Ideal) (k0_pay1 (F := Ideal) (outsAt0 m c (t.val - 1) (Nat.lt_of_le_of_lt (Nat.sub_le _ _) t.isLt)).2.2.2.2.2.2 (sqB m c t)) := by
  rw [outsAt0_C m c t h0 h1]
  frame_out [↓View.readCov_skip, View.readCov_fill]
  rw [pay86_eq (iblk m c 0 t) (iblk m c 2 t) (iblk m c 3 t), pay85_eq (iblk m c 0 t) (iblk m c 2 t) (iblk m c 3 t)]
  rw [enc_read]
  rw [read_unread_whole]
  rfl

/-- At the last point: the perplexity block. -/
theorem perpC (h0 : ¬t.val % 32 = 0) (h1 : t.val % 32 = 31) : (outsAt0 m c t.val t.isLt).2.2.2.2.1 = k0_pay3 (F := Ideal) (cntG (bI m c t) (outsAt0 m c (t.val - 1) (Nat.lt_of_le_of_lt (Nat.sub_le _ _) t.isLt)).2.2.2.2.2.1) := by
  rw [outsAt0_C m c t h0 h1]
  frame_out [↓View.readCov_skip, View.readCov_fill]
  rw [pay86_eq (iblk m c 0 t) (iblk m c 2 t) (iblk m c 3 t), pay85_eq (iblk m c 0 t) (iblk m c 2 t) (iblk m c 3 t)]
  simp only [read_unread_whole]
  rw [cnt_read]
  rfl

end Cert.Proof.Pt
-- ==== Proof.Rd.lean ====
module

public import proofs.«01_k».proof.Proof.Pt

@[expose] public section

set_option maxRecDepth 16384

noncomputable section

/-! What the region's input blocks hold, entry by entry, over the kernel's two arguments. -/

namespace Cert.Proof.Rd

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD) (t : Fin cfg0.N)

/-- The block index of each of the nine windows at each grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, _)

/-- The images as the region finds them: 8192 rows of 32 channels. -/
def zK : FVec Ideal S8192x32 .f32 := shapeCast S8192x32 (transpose S8x32x32x32 [0, 2, 3, 1] (m ((c : Thread nD τ).loc main_arg0)) transposes_S8x32x32x32_S8x32x32x32_0_2_3_1) shapeCasts_S8x32x32x32_S8192x32
/-- The codes. -/
def eK : FVec Ideal S8192x32 .f32 := m ((c : Thread nD τ).loc main_arg1)

/-- The rows the region reads. -/
theorem V1 : V m c main_call0_v1 = zK m c := by
  show StableHlo.after (hostOps0 (F := Ideal)) (fun b => m (c, b)) (Proc.tc.devRef main_call0_v1) = _
  after_results
  rfl
/-- The codes the region reads. -/
theorem Va : V m c main_arg1 = eK m c := by
  show StableHlo.after (hostOps0 (F := Ideal)) (fun b => m (c, b)) (Proc.tc.devRef main_arg1) = _
  after_results
  rfl
/-- The transposed codes the region reads. -/
theorem V2 : V m c main_call0_v2 = transpose S32x8192 [1, 0] (eK m c) transposes_S8192x32_S32x8192_1_0 := by
  show StableHlo.after (hostOps0 (F := Ideal)) (fun b => m (c, b)) (Proc.tc.devRef main_call0_v2) = _
  after_results
  rfl
/-- The doubled transposed codes the region reads. -/
theorem V5 : V m c main_call0_v5 = truncf .bf16 (mulf (broadcastInDim S32x8192 ![] bcast_S_S32x8192 (constant (F := Ideal) S_ .f32 0x40000000#32)) (transpose S32x8192 [1, 0] (eK m c) transposes_S8192x32_S32x8192_1_0)) bitsLt_bf16_f32 := by
  show StableHlo.after (hostOps0 (F := Ideal)) (fun b => m (c, b)) (Proc.tc.devRef main_call0_v5) = _
  after_results
  rfl

/-- The row of the whole that row `r` of the point's block is. -/
def row (r : Fin 256) : Fin 8192 := ⟨256 * t.val + r.val, by have := t.isLt; have h : t.val < 32 := lt_of_lt_of_eq this N_0; omega⟩

/-- The point's block of rows at one place. -/
theorem rd0 (r : Fin 256) (j : Fin 32) : iblk m c 0 t (ix2 r j) = zK m c (ix2 (row t r) j) := by
  obtain ⟨i0, i1, i2, i3, -⟩ := idx t
  rw [← V1]
  unfold iblk
  blk_ext [i0, row]

/-- The block of codes at one place. -/
theorem rd1 (n : Fin 8192) (j : Fin 32) : iblk m c 1 t (ix2 n j) = eK m c (ix2 n j) := by
  obtain ⟨i0, i1, i2, i3, -⟩ := idx t
  rw [← Va]
  unfold iblk
  blk_ext [i1]

/-- The block of transposed codes at one place. -/
theorem rd2 (n : Fin 8192) (j : Fin 32) : iblk m c 2 t (ix2 j n) = eK m c (ix2 n j) := by
  obtain ⟨i0, i1, i2, i3, -⟩ := idx t
  have e : iblk m c 2 t (ix2 j n) = V m c main_call0_v2 (ix2 j n) := by
    unfold iblk
    blk_ext [i2]
  rw [e, V2]
  pointwise

/-- The block of doubled transposed codes at one place. -/
theorem rd3 (n : Fin 8192) (j : Fin 32) : iblk m c 3 t (ix2 j n) = Ideal.ofBits .f32 0x40000000#32 * eK m c (ix2 n j) := by
  obtain ⟨i0, i1, i2, i3, -⟩ := idx t
  have e : iblk m c 3 t (ix2 j n) = V m c main_call0_v5 (ix2 j n) := by
    unfold iblk
    blk_ext [i3]
  rw [e, V5]
  pointwise

end Cert.Proof.Rd
-- ==== Proof.Form.lean ====
module

public import proofs.«01_k».proof.Proof.Argmin
public import Idealize.ShloMosaic.Lib.Pointwise
public import Idealize.ShloMosaic.Lib.IdealHost

@[expose] public section

noncomputable section

/-! The mathematics that both programs compute, over rows `Z` and codes `E` as functions of two coordinates. -/

namespace Cert.Proof.Form

open Idealize.ShloMosaic

variable (Z E : Fin 8192 → Fin 32 → EReal) (J : Fin 8192 → BitVec 32)

/-- The constant two. -/
def two : EReal := Ideal.ofBits .f32 0x40000000#32

/-- The constant two is the real two. -/
theorem two_eq : two = ((2 : ℝ) : EReal) := by
  unfold two
  simp only [Ideal.ofBits, Ideal.ieee]
  simp
  rw [← EReal.coe_mul]
  norm_num

/-- Doubling goes through a finite sum. -/
theorem two_mul_sum {ι : Type} (s : Finset ι) (g : ι → EReal) : two * ∑ j ∈ s, g j = ∑ j ∈ s, two * g j := by
  classical
  induction s using Finset.induction_on with
  | empty => simp
  | insert a s ha ih =>
    rw [Finset.sum_insert ha, Finset.sum_insert ha, ← ih, two_eq]
    exact EReal.left_distrib_of_nonneg_of_ne_top (by norm_num) (EReal.coe_ne_top _) _ _

/-- The squared distance of row `R` from the code `n`, zero past the last code. -/
def dst (R : Fin 8192) : ℕ → EReal := fun n =>
  if h : n < 8192 then (∑ j, Z R j * Z R j + ∑ j, E ⟨n, h⟩ j * E ⟨n, h⟩ j) - two * ∑ j, Z R j * E ⟨n, h⟩ j else 0

/-- The distance at a code. -/
theorem dst_at (R n : Fin 8192) : dst Z E R n.val = (∑ j, Z R j * Z R j + ∑ j, E n j * E n j) - two * ∑ j, Z R j * E n j := by
  rw [dst, dif_pos n.isLt]

/-- With the doubled codes multiplied instead. -/
theorem dst_at' (R n : Fin 8192) : dst Z E R n.val = (∑ j, Z R j * Z R j + ∑ j, E n j * E n j) - ∑ j, Z R j * (two * E n j) := by
  rw [dst_at, two_mul_sum]
  simp only [mul_left_comm]

/-- The one-hot entry. -/
def hotE (R n : Fin 8192) : EReal := if BitVec.ofNat 32 n.val = J R then 1 else 0
/-- The quantised row. -/
def qE (R : Fin 8192) (j : Fin 32) : EReal := Z R j + ((∑ n, hotE J R n * E n j) - Z R j)
/-- How many rows chose the code. -/
def cntE (n : Fin 8192) : EReal := ∑ R, hotE J R n
/-- The sum of the squared differences. -/
def sqE : EReal := ∑ R, ∑ j, (qE Z E J R j - Z R j) * (qE Z E J R j - Z R j)
/-- The loss of a sum of squared differences. -/
def lossE (s : EReal) : EReal :=
  Ideal.div s (Ideal.ofBits .f32 0x48800000#32) + Ideal.ofBits .f32 0x3E800000#32 * Ideal.div s (Ideal.ofBits .f32 0x48800000#32)
/-- The perplexity of the counts. -/
def perpE (k : Fin 8192 → EReal) : EReal :=
  Ideal.exp (-∑ n, Ideal.div (k n) (Ideal.ofBits .f32 0x46000000#32) *
    Ideal.log (Ideal.div (k n) (Ideal.ofBits .f32 0x46000000#32) + Ideal.ofBits .f32 0x2EDBE6FF#32))

end Cert.Proof.Form
-- ==== Proof.Val.lean ====
module

public import proofs.«01_k».proof.Proof.Rd
public import proofs.«01_k».proof.Proof.Form

@[expose] public section

set_option maxRecDepth 16384

noncomputable section

/-! What the region leaves in its five output arrays, entry by entry. -/

namespace Cert.Proof.Val

open Idealize.ShloMosaic Idealize.ShloMosaic.TcCoe Idealize.SL.Sem
open Idealize.ShloMosaic.Pipeline (Dat)
open Cert.KernelIdeal Cert.KernelIdeal.Gen
open Cert.Proof.Blk Cert.Proof.Pt Cert.Proof.Rd Cert.Proof.Argmin Cert.Proof.Form

variable (m : (ℓ : Loc nD τ sig) → Buf (Elt Ideal) ℓ) (c : Dev nD) (t : Fin cfg0.N)

/-- The rows of the images. -/
def Z (R : Fin 8192) (j : Fin 32) : EReal := zK m c (ix2 R j)
/-- The codes. -/
def E (n : Fin 8192) (j : Fin 32) : EReal := eK m c (ix2 n j)

/-- The index that the kernel chooses at each row. -/
def J (R : Fin 8192) : BitVec 32 :=
  bI m c ⟨R.val / 256, lt_of_lt_of_eq (b := 32) (by have := R.isLt; omega) N_0.symm⟩ (ix2 ⟨R.val % 256, Nat.mod_lt _ (by norm_num)⟩ 0)

/-- The chosen index of a row of a block. -/
theorem J_row (r : Fin 256) : J m c (row t r) = bI m c t (ix2 r 0) := by
  have h1 : ∀ h, (⟨(row t r).val / 256, h⟩ : Fin cfg0.N) = t := fun h => Fin.ext (by
    show (256 * t.val + r.val) / 256 = t.val
    have := r.isLt
    omega)
  have h2 : ∀ h, (⟨(row t r).val % 256, h⟩ : Fin 256) = r := fun h => Fin.ext (by
    show (256 * t.val + r.val) % 256 = r.val
    have := r.isLt
    omega)
  unfold J
  rw [h1, h2]

/-- Each row is a row of a block. -/
theorem row_surj (R : Fin 8192) : ∃ t r, R = row t r := by
  refine ⟨⟨R.val / 256, lt_of_lt_of_eq (b := 32) (by have := R.isLt; omega) N_0.symm⟩, ⟨R.val % 256, Nat.mod_lt _ (by norm_num)⟩, Fin.ext ?_⟩
  show R.val = 256 * (R.val / 256) + R.val % 256
  omega

/-- The chosen index is the first position of the least distance. -/
theorem J_first (R : Fin 8192) : IsFirst (dst (Z m c) (E m c) R) 8192 (J m c R) := by
  obtain ⟨t, r, rfl⟩ := row_surj R
  rw [J_row]
  unfold bI
  refine best_first _ _ _ r _ fun n => ?_
  rw [dst_at', pay6_at, pay7_at]
  simp only [rd0, rd2, rd3]
  rfl

/-- The three kinds of points. -/
theorem kinds {P : Prop} (hA : t.val % 32 = 0 → ¬t.val % 32 = 31 → P) (hB : ¬t.val % 32 = 0 → ¬t.val % 32 = 31 → P)
    (hC : ¬t.val % 32 = 0 → t.val % 32 = 31 → P) : P := by
  by_cases h0 : t.val % 32 = 0
  · exact hA h0 (by omega)
  · by_cases h1 : t.val % 32 = 31
    · exact hC h0 h1
    · exact hB h0 h1

/-- The one-hot block at one place. -/
theorem enc (r : Fin 256) (n : Fin 8192) : (outsAt0 m c t.val t.isLt).1 (ix2 r n) = hotE (J m c) (row t r) n := by
  have h : (outsAt0 m c t.val t.isLt).1 = ohB (bI m c t) := kinds t (encA m c t) (encB m c t) (encC m c t)
  rw [h]
  unfold hotE
  rw [J_row]
  rfl

/-- The quantised block at one place. -/
theorem zqB_at (r : Fin 256) (j : Fin 32) : zqB m c t (ix2 r j) = qE (Z m c) (E m c) (J m c) (row t r) j := by
  unfold zqB qE hotE
  pointwise [k0_pay122, k0_pay4]
  simp only [rd0, rd1, J_row]
  rfl

/-- The quantised block at one place. -/
theorem zqv (r : Fin 256) (j : Fin 32) : (outsAt0 m c t.val t.isLt).2.1 (ix2 r j) = qE (Z m c) (E m c) (J m c) (row t r) j := by
  have h : (outsAt0 m c t.val t.isLt).2.1 = zqB m c t := kinds t (zqvA m c t) (zqvB m c t) (zqvC m c t)
  rw [h, zqB_at]

/-- The index block at one place. -/
theorem idxv (r : Fin 256) : (outsAt0 m c t.val t.isLt).2.2.1 (ix2 r 0) = J m c (row t r) := by
  have h : (outsAt0 m c t.val t.isLt).2.2.1 = bI m c t := kinds t (idxA m c t) (idxB m c t) (idxC m c t)
  rw [h, J_row]

/-- The running sum of squared differences after the point. -/
theorem pay1_at (a : Vec Ideal S1x1 .f32) : k0_pay1 (F := Ideal) a (sqB m c t) (ix2 0 0)
    = a (ix2 0 0) + ∑ r : Fin 256, ∑ j, (qE (Z m c) (E m c) (J m c) (row t r) j - Z m c (row t r) j)
        * (qE (Z m c) (E m c) (J m c) (row t r) j - Z m c (row t r) j) := by
  have hz : ∀ r j, k0_pay4 (F := Ideal) (iblk m c 0 t) (ix2 r j) = Z m c (row t r) j := fun r j => by
    pointwise [k0_pay4]
    exact rd0 m c t r j
  simp only [← zqB_at, ← hz]
  unfold sqB zqB
  pointwise [k0_pay1, k0_pay123]

/-- A quantity that starts at the first point and takes one block of rows at each point is, at the last, the sum over all rows. -/
theorem sum_rows (f : (n : ℕ) → n < cfg0.N → EReal) (g : Fin 8192 → EReal)
    (h0 : ∀ t : Fin cfg0.N, t.val % 32 = 0 → f t.val t.isLt = 0 + ∑ r : Fin 256, g (row t r))
    (hs : ∀ t : Fin cfg0.N, ¬t.val % 32 = 0 →
      f t.val t.isLt = f (t.val - 1) (Nat.lt_of_le_of_lt (Nat.sub_le _ _) t.isLt) + ∑ r : Fin 256, g (row t r))
    (t : Fin cfg0.N) (ht : t.val % 32 = 31) : f t.val t.isLt = ∑ R, g R := by
  obtain ⟨F, hF⟩ : ∃ F : ℕ → EReal, F = fun p : ℕ => if h : p < 32 then ∑ r : Fin 256, g ⟨p * 256 + r.val, by have := r.isLt; omega⟩ else 0 := ⟨_, rfl⟩
  have e : ∀ t : Fin cfg0.N, ∑ r : Fin 256, g (row t r) = F t.val := fun t => by
    have hl : t.val < 32 := lt_of_lt_of_eq t.isLt N_0
    subst hF
    simp only [dif_pos hl]
    refine Finset.sum_congr rfl fun r _ => congrArg g (Fin.ext ?_)
    show 256 * t.val + r.val = t.val * 256 + r.val
    omega
  rw [Pipeline.eq_sum_of_reset_step f 32 0 F (fun t h => (h0 t h).trans (congrArg _ (e t))) (fun t h => (hs t h).trans (congrArg _ (e t))) t, zero_add, ht]
  have hl : t.val < 32 := lt_of_lt_of_eq t.isLt N_0
  have hd : t.val / 32 = 0 := by omega
  rw [hd, Finset.sum_range]
  rw [← Fin.sum_mul_add_fin 32 256 g]
  refine Finset.sum_congr rfl fun s _ => ?_
  subst hF
  have hs' : 32 * 0 + s.val < 32 := by have := s.isLt; omega
  simp only [dif_pos hs']
  refine Finset.sum_congr rfl fun r _ => congrArg g (Fin.ext ?_)
  show (32 * 0 + s.val) * 256 + r.val = s.val * 256 + r.val
  omega

/-- The counts at the last point. -/
theorem cnt_last (h1 : t.val % 32 = 31) (n : Fin 8192) : (outsAt0 m c t.val t.isLt).2.2.2.2.2.1 (ix2 0 n) = cntE (J m c) n := by
  have hb : ∀ (t : Fin cfg0.N) (p : Vec Ideal S1x8192 .f32), cntG (bI m c t) p (ix2 0 n) = p (ix2 0 n) + ∑ r : Fin 256, hotE (J m c) (row t r) n := fun t p => by
    unfold hotE
    simp only [J_row]
    rfl
  refine sum_rows (fun k h => (outsAt0 m c k h).2.2.2.2.2.1 (ix2 0 n)) (fun R => hotE (J m c) R n) (fun t h => ?_) (fun t h => ?_) t h1
  · show (outsAt0 m c t.val t.isLt).2.2.2.2.2.1 (ix2 0 n) = _
    rw [cntA m c t h (by omega), hb]
    have h8 : k0_pay8 (F := Ideal) (ix2 0 n) = 0 := by pointwise [k0_pay8]
    rw [h8]
  · show (outsAt0 m c t.val t.isLt).2.2.2.2.2.1 (ix2 0 n) = _
    by_cases h1 : t.val % 32 = 31
    · rw [cntC m c t h h1, hb]
    · rw [cntB m c t h h1, hb]

/-- The sum of squared differences at the last point. -/
theorem acc_last (h1 : t.val % 32 = 31) : (outsAt0 m c t.val t.isLt).2.2.2.2.2.2 (ix2 0 0) = sqE (Z m c) (E m c) (J m c) := by
  refine sum_rows (fun k h => (outsAt0 m c k h).2.2.2.2.2.2 (ix2 0 0)) (fun R => ∑ j, (qE (Z m c) (E m c) (J m c) R j - Z m c R j)
        * (qE (Z m c) (E m c) (J m c) R j - Z m c R j)) (fun t h => ?_) (fun t h => ?_) t h1
  · show (outsAt0 m c t.val t.isLt).2.2.2.2.2.2 (ix2 0 0) = _
    rw [accA m c t h (by omega), pay1_at]
    have h9 : k0_pay9 (F := Ideal) (ix2 0 0) = 0 := by pointwise [k0_pay9]
    rw [h9]
  · show (outsAt0 m c t.val t.isLt).2.2.2.2.2.2 (ix2 0 0) = _
    by_cases h1 : t.val % 32 = 31
    · rw [accC m c t h h1, pay1_at]
    · rw [accB m c t h h1, pay1_at]

/-- The loss of a sum of squared differences. -/
theorem pay2_at (a : Vec Ideal S1x1 .f32) : k0_pay2 (F := Ideal) a (ix2 0 0) = lossE (a (ix2 0 0)) := by
  unfold lossE
  pointwise [k0_pay2]

/-- The perplexity of the counts. -/
theorem pay3_at (a : Vec Ideal S1x8192 .f32) : k0_pay3 (F := Ideal) a (ix2 0 0) = perpE fun n => a (ix2 0 n) := by
  unfold perpE
  pointwise [k0_pay3]
  rw [Fin.sum_univ_one, zero_sub]
  rfl

/-- The loss at the last point. -/
theorem loss_last (h1 : t.val % 32 = 31) : (outsAt0 m c t.val t.isLt).2.2.2.1 (ix2 0 0) = lossE (sqE (Z m c) (E m c) (J m c)) := by
  rw [lossC m c t (by omega) h1, ← accC m c t (by omega) h1, pay2_at, acc_last m c t h1]

/-- The perplexity at the last point. -/
theorem perp_last (h1 : t.val % 32 = 31) : (outsAt0 m c t.val t.isLt).2.2.2.2.1 (ix2 0 0) = perpE (cntE (J m c)) := by
  rw [perpC m c t (by omega) h1, ← cntC m c t (by omega) h1, pay3_at]
  exact congrArg perpE (funext fun n => cnt_last m c t h1 n)

/-- The one-hot array. -/
theorem arr4 : (dats m 0 c).arrAt 4 (cfgs 0).N = fun i => hotE (J m c) (i 0) (i 1) := by
  refine (dats m 0 c).arrAt_eq_of_covers 4 _ (by decide +kernel) fun t hf y => ?_
  obtain ⟨-, -, -, -, i4, -⟩ := idx t
  blk_simp
  rw [after0_4]
  have e : (win0_4.blk t).view.emb y = ix2 (row t (y 0)) (y 1) := by blk_ext [i4, row]
  rw [e]
  refine Eq.trans ?_ (enc m c t (y 0) (y 1))
  exact congrArg _ (eq_ix2 (n0 := 256) (n1 := 8192) y)

/-- The quantised array. -/
theorem arr5 : (dats m 0 c).arrAt 5 (cfgs 0).N = fun i => qE (Z m c) (E m c) (J m c) (i 0) (i 1) := by
  refine (dats m 0 c).arrAt_eq_of_covers 5 _ (by decide +kernel) fun t hf y => ?_
  obtain ⟨-, -, -, -, -, i5, -⟩ := idx t
  blk_simp
  rw [after0_5]
  have e : (win0_5.blk t).view.emb y = ix2 (row t (y 0)) (y 1) := by blk_ext [i5, row]
  rw [e]
  refine Eq.trans ?_ (zqv m c t (y 0) (y 1))
  exact congrArg _ (eq_ix2 (n0 := 256) (n1 := 32) y)

/-- The index array. -/
theorem arr6 : (dats m 0 c).arrAt 6 (cfgs 0).N = fun i => J m c (i 0) := by
  refine (dats m 0 c).arrAt_eq_of_covers 6 _ (by decide +kernel) fun t hf y => ?_
  obtain ⟨-, -, -, -, -, -, i6, -⟩ := idx t
  blk_simp
  rw [after0_6]
  have e : (win0_6.blk t).view.emb y = ix2 (row t (y 0)) (y 1) := by blk_ext [i6, row]
  rw [e]
  refine Eq.trans ?_ (idxv m c t (y 0))
  refine congrArg _ ((eq_ix2 (n0 := 256) (n1 := 1) y).trans ?_)
  rw [Subsingleton.elim (α := Fin 1) (y 1) 0]

/-- The loss array. -/
theorem arr7 : (dats m 0 c).arrAt 7 (cfgs 0).N = fun i => lossE (sqE (Z m c) (E m c) (J m c)) := by
  refine (dats m 0 c).arrAt_eq_of_covers 7 _ (by decide +kernel) fun t hf y => ?_
  blk_simp
  rw [after0_7]
  refine Eq.trans ?_ (loss_last m c t ((flush0_7 t).mp hf))
  refine congrArg _ ((eq_ix2 (n0 := 1) (n1 := 1) y).trans ?_)
  rw [Subsingleton.elim (α := Fin 1) (y 1) 0, Subsingleton.elim (α := Fin 1) (y 0) 0]

/-- The perplexity array. -/
theorem arr8 : (dats m 0 c).arrAt 8 (cfgs 0).N = fun i => perpE (cntE (J m c)) := by
  refine (dats m 0 c).arrAt_eq_of_covers 8 _ (by decide +kernel) fun t hf y => ?_
  blk_simp
  rw [after0_8]
  refine Eq.trans ?_ (perp_last m c t ((flush0_8 t).mp hf))
  refine congrArg _ ((eq_ix2 (n0 := 1) (n1 := 1) y).trans ?_)
  rw [Subsingleton.elim (α := Fin 1) (y 1) 0, Subsingleton.elim (α := Fin 1) (y 0) 0]

end Cert.Proof.Val
-- ==== Proof.KRun.lean ====
module

public import proofs.«01_k».proof.Proof.Val

@[expose] public section

set_option maxRecDepth 16384

noncomputable section

/-! The kernel's run with its five results as the mathematics of `Form`. -/

namespace Cert.Proof.KRun

open Idealize.ShloMosaic Idealize.ShloMosaic.TcCoe Idealize.SL.Sem
open Cert.KernelIdeal Cert.KernelIdeal.Gen
open Cert.Proof.Form Cert.Proof.Val

variable (m : (ℓ : Loc nD τ sig) → Buf (Elt Ideal) ℓ) (c : Dev nD)

/-- What the device holds when the region has ended. -/
abbrev W : Valuation τ sig (Elt Ideal) := Pipeline.withArrays (cfgs 0).spec c (V0 m c) (fun w => (dats m 0 c).arrAt w (cfgs 0).N)

/-- The quantised rows there. -/
theorem w5 : W m c (Proc.tc.devRef main_call0_v6_1) = fun i => qE (Z m c) (E m c) (J m c) (i 0) (i 1) :=
  (Pipeline.withArrays_arr (cfgs 0).spec (by decide) c _ _ 5).trans (arr5 m c)
/-- The loss there. -/
theorem w7 : W m c (Proc.tc.devRef main_call0_v6_3) = fun _ => lossE (sqE (Z m c) (E m c) (J m c)) :=
  (Pipeline.withArrays_arr (cfgs 0).spec (by decide) c _ _ 7).trans (arr7 m c)
/-- The perplexity there. -/
theorem w8 : W m c (Proc.tc.devRef main_call0_v6_4) = fun _ => perpE (cntE (J m c)) :=
  (Pipeline.withArrays_arr (cfgs 0).spec (by decide) c _ _ 8).trans (arr8 m c)

/-- The kernel, run from any launch, ends with its five results at these values and with its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v0_0) = (fun _ => lossE (sqE (Z m c) (E m c) (J m c)))
        ∧ r.2.mem ((c.tc : Thread nD τ).loc main_v0_1)
            = transpose S8x32x32x32 [0, 3, 1, 2] (shapeCast S8x32x32x32 (fun i : S8192x32.Idx => (qE (Z m c) (E m c) (J m c) (i 0) (i 1) : Ideal .f32))
                shapeCasts_S8192x32_S8x32x32x32) transposes_S8x32x32x32_S8x32x32x32_0_3_1_2
        ∧ r.2.mem ((c.tc : Thread nD τ).loc main_v0_2) = (fun _ => perpE (cntE (J m c)))
        ∧ r.2.mem ((c.tc : Thread nD τ).loc main_v0_3) = (fun i => hotE (J m c) (i 0) (i 1))
        ∧ r.2.mem ((c.tc : Thread nD τ).loc main_v0_4) = (fun i => J m c (i 0))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  run_from run_main m ρ & unchanged m ρ
  · unfold Pipeline.afterTail₀
    simp only [List.flatten_cons, List.flatten_nil, List.append_nil]
    after_results
    exact congrArg (fun X : FVec Ideal S1x1 .f32 => shapeCast S_ X shapeCasts_S1x1_S_) (w7 m c)
  · unfold Pipeline.afterTail₀
    simp only [List.flatten_cons, List.flatten_nil, List.append_nil]
    after_results
    exact congrArg (fun X : FVec Ideal S8192x32 .f32 => transpose S8x32x32x32 [0, 3, 1, 2] (shapeCast S8x32x32x32 X shapeCasts_S8192x32_S8x32x32x32)
      transposes_S8x32x32x32_S8x32x32x32_0_3_1_2) (w5 m c)
  · unfold Pipeline.afterTail₀
    simp only [List.flatten_cons, List.flatten_nil, List.append_nil]
    after_results
    exact congrArg (fun X : FVec Ideal S1x1 .f32 => shapeCast S_ X shapeCasts_S1x1_S_) (w8 m c)
  · exact arr4 m c
  · exact arr6 m c

end Cert.Proof.KRun
-- ==== Proof.RVal.lean ====
module

public import proofs.«01_k».proof.Proof.RefRun
public import proofs.«01_k».proof.Proof.Form
public import Idealize.ShloMosaic.Lib.Pipeline.ValueKit

@[expose] public section

set_option maxRecDepth 16384

noncomputable section

/-! The reference's results, entry by entry. -/

namespace Cert.Proof.RVal

open Idealize.ShloMosaic Idealize.ShloMosaic.TcCoe Idealize.SL.Sem
open Cert.ReferenceIdeal Cert.ReferenceIdeal.Gen
open Cert.Proof.Argmin Cert.Proof.Form

/-- An array of rows as a function of two coordinates. -/
abbrev mat (z : FVec Ideal S8192x32 .f32) : Fin 8192 → Fin 32 → EReal := fun R j => z (ix2 R j)

/-- The reference's distance. -/
theorem dist_at (z e : FVec Ideal S8192x32 .f32) (R n : Fin 8192) : Ref.dist (F := Ideal) z e (ix2 R n) = dst (mat z) (mat e) R n.val := by
  rw [dst_at]
  unfold two
  pointwise [Ref.dist]

/-- The reference's choice between two candidates. -/
theorem reducer_eq : reducer_argmin_f32_i32 (F := Ideal) = pick := by
  funext a b
  obtain ⟨a1, a2⟩ := a
  obtain ⟨b1, b2⟩ := b
  unfold reducer_argmin_f32_i32 pick
  by_cases h1 : (a1 : EReal) < b1
  · have h0 : ∀ x : BitVec 1, 1#1 ||| x = 1#1 := by decide
    simp [h1, h0, Scalar.select, IntOp.ori, IntOp.andi, Ideal.cmpf_def, Ideal.cmp]
  · by_cases h2 : (a1 : EReal) = b1
    · by_cases h3 : a2.toInt < b2.toInt <;>
        simp [h2, h3, Scalar.select, IntOp.ori, IntOp.andi, Ideal.cmpf_def, Ideal.cmp, IntOp.cmpi, BitVec.slt]
    · simp [h1, h2, Scalar.select, IntOp.ori, IntOp.andi, Ideal.cmpf_def, Ideal.cmp]

/-- A place of the matrix lies in the row it is dropped to. -/
theorem drop_iff {a b : ℕ} (h : (⟨2, ![a, b]⟩ : Shape).ReducesTo [1] ⟨1, ![a]⟩) (i : (⟨2, ![a, b]⟩ : Shape).Idx) (R : Fin a) : h.drop i = ix1 R ↔ i 0 = R := by
  have hv : (h.drop i 0 : Nat) = i 0 := Shape.ReducesTo.drop_apply_val h i 0
  constructor
  · intro e
    apply Fin.ext
    rw [← hv, e]
    rfl
  · intro e
    funext k
    have hk : k = 0 := Subsingleton.elim (α := Fin 1) _ _
    subst hk
    apply Fin.ext
    rw [hv, e]
    rfl

/-- What the fold along an axis visits. -/
theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ (x i, y i) = p := by
  unfold Host.argReduceFiber
  simp only [List.mem_map, List.mem_filter, List.mem_finRange, true_and, decide_eq_true_eq]
  constructor
  · rintro ⟨n, h0, h1⟩
    exact ⟨_, h0, h1⟩
  · rintro ⟨i, h0, h1⟩
    exact ⟨s.rowMajor i, by rw [Equiv.symm_apply_apply]; exact h0, by rw [Equiv.symm_apply_apply]; exact h1⟩

/-- A fold along an axis with the positions beside the values ends at the first least entry. -/
theorem fold_first {s t u : Shape} {axes : List (Fin s.rank)} (red : Ideal .f32 × BitVec 32 → Ideal .f32 × BitVec 32 → Ideal .f32 × BitVec 32)
    (hred : red = pick) (n : ℕ) (hn : 0 < n) (hn' : n ≤ 2 ^ 31) (x : s.Idx → Ideal .f32) (y : s.Idx → BitVec 32) (iv : u.Idx → Ideal .f32)
    (ii : u.Idx → BitVec 32) (h : s.ReducesTo axes t) (hu : 0 < u.numel) (hv : iv (Shape.Idx.first hu) = (⊤ : EReal))
    (hi : ii (Shape.Idx.first hu) = 0#32) (f : ℕ → EReal) (j : t.Idx)
    (hl : ∀ i, h.drop i = j → ∃ k, k < n ∧ x i = f k ∧ y i = BitVec.ofNat 32 k)
    (hr : ∀ k, k < n → ∃ i, h.drop i = j ∧ x i = f k ∧ y i = BitVec.ofNat 32 k) :
    IsFirst f n (Host.argReduce (F := Ideal) (φ := .f32) red x y iv ii h hu j).2 := by
  subst hred
  rw [Ideal.argReduce_eq_reduce2, Host.reduce2_eq_foldl_fiber, hv, hi]
  refine foldl_first f n hn hn' _ fun p => ?_
  rw [mem_fiber]
  constructor
  · rintro ⟨i, h0, rfl⟩
    obtain ⟨k, hk, a, b⟩ := hl i h0
    exact ⟨k, hk, Prod.ext a b⟩
  · rintro ⟨k, hk, rfl⟩
    obtain ⟨i, h0, a, b⟩ := hr k hk
    exact ⟨i, h0, Prod.ext a b⟩

/-- The reference's indices are such a fold. -/
theorem amin_eq {F : FTy → Type} [FloatOps F] (d : (⟨S8192x8192, .f32⟩ : BufTy).Contents (Elt F)) : Ref.amin d = fun j => (Host.argReduce reducer_argmin_f32_i32 d
    (iotaInDim S8192x8192 32 1) (constant S_ .f32 0x7F800000#32) (constantI S_ 32 0#32) reducesTo_S8192x8192_S8192_d1 h_S_ j).2 := rfl

/-- The reference's index is the first position of the least distance. -/
theorem amin_first (d : FVec Ideal S8192x8192 .f32) (f : ℕ → EReal) (R : Fin 8192) (hf : ∀ n : Fin 8192, d (ix2 R n) = f n.val) :
    IsFirst f 8192 (Ref.amin (F := Ideal) d (ix1 R)) := by
  have ht : constant (F := Ideal) S_ .f32 0x7F800000#32 (Shape.Idx.first h_S_) = (⊤ : EReal) := by
    show Ideal.ofBits .f32 0x7F800000#32 = ⊤
    simp [Ideal.ofBits, Ideal.ieee]
  rw [amin_eq]
  refine fold_first _ reducer_eq 8192 (by norm_num) (by norm_num) _ _ _ _ _ _ ht rfl f _ (fun i h0 => ?_) fun k hk => ?_
  · have h1 := (drop_iff (a := 8192) (b := 8192) _ i R).mp h0
    refine ⟨(i 1).val, (i 1).isLt, ?_, rfl⟩
    subst h1
    refine Eq.trans ?_ (hf (i 1))
    exact congrArg d (eq_ix2 i)
  · exact ⟨ix2 R ⟨k, hk⟩, (drop_iff (a := 8192) (b := 8192) _ _ R).mpr rfl, hf ⟨k, hk⟩, rfl⟩

/-- The reference's one-hot entry. -/
theorem hot_at (i : IVec S8192 32) (R n : Fin 8192) : Ref.hot (F := Ideal) i (ix2 R n) = hotE (fun R => i (ix1 R)) R n := by
  pointwise [Ref.hot]
  unfold hotE
  by_cases h : BitVec.ofNat 32 n.val = i (ix1 R)
  · simp [h, IntOp.cmpi]
    show (((1 : ℕ) : ℝ) : EReal) = 1
    simp
  · rw [if_neg h]
    simp only [IntOp.cmpi]
    rw [beq_eq_false_iff_ne.mpr (Ne.symm h)]
    simp
    show (((0 : ℕ) : ℝ) : EReal) = 0
    simp

/-- The reference's perplexity. -/
theorem perp_at (h : FVec Ideal S8192x8192 .f32) (i : S_.Idx) :
    Ref.perp (F := Ideal) (Ref.emean (F := Ideal) h) i = perpE (fun n => ∑ R, h (ix2 R n)) := by
  unfold perpE
  pointwise [Ref.perp, Ref.emean]

/-- The sum over all four axes of the images. -/
theorem sum4 (x : FVec Ideal S8x32x32x32 .f32) (i : S_.Idx) :
    Ideal.hostReduceAdd reducesTo_S8x32x32x32_S_d0_1_2_3 x 0 i = ∑ a : Fin 8, ∑ b : Fin 32, ∑ c : Fin 32, ∑ j : Fin 32, x (ix4 a b c j) := by
  unfold Ideal.hostReduceAdd
  rw [← sum_idx4]
  rw [Finset.filter_true_of_mem]
  · exact zero_add _
  · intro k _
    funext a
    exact a.elim0

/-- The reference's loss. -/
theorem loss_at (q t : FVec Ideal S8x32x32x32 .f32) (i : S_.Idx) : Ref.loss (F := Ideal) q t i
    = lossE (∑ a : Fin 8, ∑ b : Fin 32, ∑ c : Fin 32, ∑ j : Fin 32, (q (ix4 a b c j) - t (ix4 a b c j)) * (q (ix4 a b c j) - t (ix4 a b c j))) := by
  unfold lossE
  pointwise [Ref.loss, Ref.mse]
  rw [sum4]
  rfl

/-- The reference's quantised images. -/
theorem zq_at (h : FVec Ideal S8192x8192 .f32) (e : FVec Ideal S8192x32 .f32) (x : FVec Ideal S8x32x32x32 .f32) (a : Fin 8) (b c j : Fin 32) (R : Fin 8192)
    (hR : R.val = a.val * 1024 + b.val * 32 + c.val) :
    Ref.zq (F := Ideal) (Ref.zT (F := Ideal) x) h e (ix4 a b c j)
      = Ref.zF (F := Ideal) x (ix2 R j) + (∑ n, h (ix2 R n) * e (ix2 n j) - Ref.zF (F := Ideal) x (ix2 R j)) := by
  obtain ⟨Rv, hRl⟩ := R
  subst hR
  have hz : Ref.zF (F := Ideal) x (ix2 ⟨a.val * 1024 + b.val * 32 + c.val, hRl⟩ j) = x (ix4 a j b c) := by
    pointwise [Ref.zF, Ref.zT]
    blk_ext
  rw [hz]
  pointwise [Ref.zq, Ref.zT]

/-- The reference's rows at one place of the images. -/
theorem zT_at (x : FVec Ideal S8x32x32x32 .f32) (a : Fin 8) (b c j : Fin 32) (R : Fin 8192)
    (hR : R.val = a.val * 1024 + b.val * 32 + c.val) : Ref.zT (F := Ideal) x (ix4 a b c j) = Ref.zF (F := Ideal) x (ix2 R j) := by
  obtain ⟨Rv, hRl⟩ := R
  subst hR
  pointwise [Ref.zF, Ref.zT]
  blk_ext

end Cert.Proof.RVal
-- ==== Proof.RTot.lean ====
module

public import proofs.«01_k».proof.Proof.RVal
public import Idealize.ShloMosaic.Lib.Pipeline.ValueKit

@[expose] public section

set_option maxRecDepth 16384

noncomputable section

/-! The reference's results as the mathematics of `Form`, for any indices that are the first positions of the least distances. -/

namespace Cert.Proof.RTot

open Idealize.ShloMosaic Idealize.ShloMosaic.TcCoe Idealize.SL.Sem
open Cert.ReferenceIdeal Cert.ReferenceIdeal.Gen
open Cert.Proof.Argmin Cert.Proof.Form Cert.Proof.RVal

/-- A vector read as a column. -/
theorem bcol (g : IVec S8192 32) : broadcastInDim S8192x1 ![0] bcast_S8192_S8192x1_0 g = fun i => g (ix1 (i 0)) := by
  funext i
  refine (congrArg _ (eq_ix2 i)).trans ?_
  pointwise

variable (x : FVec Ideal S8x32x32x32 .f32) (e : FVec Ideal S8192x32 .f32) (J : Fin 8192 → BitVec 32)
variable (hJ : ∀ R, IsFirst (dst (mat (Ref.zF (F := Ideal) x)) (mat e) R) 8192 (J R))

include hJ

/-- The reference's index of a row. -/
theorem idx_at (R : Fin 8192) : Ref.rIdx (F := Ideal) x e (ix1 R) = J R :=
  (amin_first _ _ R fun n => dist_at _ _ R n).unique (hJ R)

/-- The reference's one-hot entry. -/
theorem hot_eq (R n : Fin 8192) : Ref.hot (F := Ideal) (Ref.rIdx (F := Ideal) x e) (ix2 R n) = hotE J R n := by
  rw [hot_at]
  unfold hotE
  simp only [idx_at x e J hJ]

/-- The reference's perplexity. -/
theorem perp_eq (i : S_.Idx) : Ref.perp (F := Ideal) (Ref.emean (F := Ideal) (Ref.hot (F := Ideal) (Ref.rIdx (F := Ideal) x e))) i = perpE (cntE J) := by
  rw [perp_at]
  refine congrArg perpE (funext fun n => Finset.sum_congr rfl fun R _ => hot_eq x e J hJ R n)

/-- The reference's quantised images. -/
theorem zq_eq (a : Fin 8) (b c j : Fin 32) (R : Fin 8192) (hR : R.val = a.val * 1024 + b.val * 32 + c.val) :
    Ref.rZq (F := Ideal) x e (ix4 a b c j) = qE (mat (Ref.zF (F := Ideal) x)) (mat e) J R j := by
  unfold Ref.rZq qE
  rw [zq_at _ _ _ a b c j R hR]
  simp only [hot_eq x e J hJ]

/-- A sum over images, rows of pixels and pixels is a sum over all pixels. -/
theorem sum_pix (g : Fin 8192 → EReal) (G : Fin 8 → Fin 32 → Fin 32 → EReal)
    (hG : ∀ (a : Fin 8) (b c : Fin 32) (R : Fin 8192), R.val = a.val * 1024 + b.val * 32 + c.val → G a b c = g R) :
    ∑ a, ∑ b, ∑ c, G a b c = ∑ R, g R := by
  rw [← Fin.sum_mul_add_fin 256 32 g]
  rw [← Fin.sum_mul_add_fin 8 32 (fun q : Fin 256 => ∑ k : Fin 32, g ⟨q.val * 32 + k.val, by have := q.isLt; have := k.isLt; omega⟩)]
  refine Finset.sum_congr rfl fun a _ => Finset.sum_congr rfl fun b _ => Finset.sum_congr rfl fun c _ => ?_
  refine hG a b c _ ?_
  show (a.val * 32 + b.val) * 32 + c.val = _
  omega

/-- The reference's loss. -/
theorem loss_eq (i : S_.Idx) : Ref.loss (F := Ideal) (Ref.rZq (F := Ideal) x e) (Ref.zT (F := Ideal) x) i
    = lossE (sqE (mat (Ref.zF (F := Ideal) x)) (mat e) J) := by
  rw [loss_at]
  refine congrArg lossE ?_
  unfold sqE
  refine sum_pix x e J hJ _ _ fun a b c R hR => Finset.sum_congr rfl fun j _ => ?_
  rw [zq_eq x e J hJ a b c j R hR, zT_at x a b c j R hR]

/-- The reference's column of indices. -/
theorem col_eq : broadcastInDim S8192x1 ![0] bcast_S8192_S8192x1_0 (Ref.rIdx (F := Ideal) x e) = fun i => J (i 0) := by
  rw [bcol]
  exact funext fun i => idx_at x e J hJ (i 0)

/-- The reference's one-hot matrix. -/
theorem mat_eq : Ref.hot (F := Ideal) (Ref.rIdx (F := Ideal) x e) = fun i => hotE J (i 0) (i 1) := by
  funext i
  refine Eq.trans ?_ (hot_eq x e J hJ (i 0) (i 1))
  exact congrArg _ (eq_ix2 i)

end Cert.Proof.RTot
-- ==== Proof.Alg.lean ====
module

public import proofs.«01_k».proof.Defs
public import proofs.«01_k».proof.Proof.KRun
public import proofs.«01_k».proof.Proof.RTot

@[expose] public section

set_option maxRecDepth 16384

noncomputable section

/-! The kernel and the reference end with the same five results. -/

namespace Cert.Proof.Alg

open Idealize.ShloMosaic Idealize.ShloMosaic.TcCoe Idealize.SL.Sem
open Cert.Proof.Argmin Cert.Proof.Form Cert.Proof.Val

variable (m : (ℓ : Loc Cert.KernelIdeal.nD Cert.KernelIdeal.τ Cert.KernelIdeal.sig) → Buf (Elt Ideal) ℓ) (c : Dev Cert.KernelIdeal.nD)

/-- The images, as the reference names their shape. -/
def x : FVec Ideal Cert.ReferenceIdeal.S8x32x32x32 .f32 := m ((c.tc : Thread Cert.KernelIdeal.nD Cert.KernelIdeal.τ).loc Cert.KernelIdeal.main_arg0)
/-- The codes, as the reference names their shape. -/
def e : FVec Ideal Cert.ReferenceIdeal.S8192x32 .f32 := m ((c.tc : Thread Cert.KernelIdeal.nD Cert.KernelIdeal.τ).loc Cert.KernelIdeal.main_arg1)

/-- Both programs read the same rows. -/
theorem Z_eq : RVal.mat (Ref.zF (F := Ideal) (x m c)) = Z m c := rfl
/-- Both programs read the same codes. -/
theorem E_eq : RVal.mat (e m c) = E m c := rfl

/-- The kernel's indices are the first positions of the reference's least distances. -/
theorem first (R : Fin 8192) : IsFirst (dst (RVal.mat (Ref.zF (F := Ideal) (x m c))) (RVal.mat (e m c)) R) 8192 (J m c R) := by
  rw [Z_eq, E_eq]
  exact J_first m c R

/-- The losses agree. -/
theorem loss : Ref.loss (F := Ideal) (Ref.rZq (F := Ideal) (x m c) (e m c)) (Ref.zT (F := Ideal) (x m c)) = fun _ => lossE (sqE (Z m c) (E m c) (J m c)) := by
  funext i
  rw [RTot.loss_eq _ _ _ (first m c), Z_eq, E_eq]

/-- The perplexities agree. -/
theorem perp : Ref.perp (F := Ideal) (Ref.emean (F := Ideal) (Ref.hot (F := Ideal) (Ref.rIdx (F := Ideal) (x m c) (e m c)))) = fun _ => perpE (cntE (J m c)) :=
  funext fun i => RTot.perp_eq _ _ _ (first m c) i

/-- The quantised images agree. -/
theorem zq (h : Cert.ReferenceIdeal.S8192x32.ShapeCasts Cert.ReferenceIdeal.S8x32x32x32) : Ref.rZq (F := Ideal) (x m c) (e m c)
    = shapeCast Cert.ReferenceIdeal.S8x32x32x32 (fun i : Cert.ReferenceIdeal.S8192x32.Idx => (qE (Z m c) (E m c) (J m c) (i 0) (i 1) : Ideal .f32)) h := by
  funext i
  obtain ⟨a, b, p, j, rfl⟩ : ∃ (a : Fin 8) (b p j : Fin 32), i = ix4 a b p j := ⟨i 0, i 1, i 2, i 3, eq_ix4 i⟩
  have hR : a.val * 1024 + b.val * 32 + p.val < 8192 := by have := a.isLt; have := b.isLt; have := p.isLt; omega
  rw [RTot.zq_eq _ _ _ (first m c) a b p j ⟨_, hR⟩ rfl, Z_eq, E_eq]
  pointwise

end Cert.Proof.Alg

namespace Cert.Proof

open Idealize.ShloMosaic Idealize.SL.Sem

/-- Over the extended reals the kernel and the reference, run from launches with the same arguments, both end with the
    same loss, quantised images, perplexity, one-hot matrix and indices, and with their arguments unchanged. -/
theorem algebraic : Cert.algebraic_KernelIdeal_ReferenceIdeal := by
  pair_intro
  · run_from KRun.run m g
  · refine θ_run_mono (Ref.run m' g') fun r hr c => ?_
    obtain ⟨h41, h42, h27, h17, h43, k0, k1⟩ := hr c
    have a0 : m' ((c.tc : Thread Cert.ReferenceIdeal.nD Cert.ReferenceIdeal.τ).loc Cert.ReferenceIdeal.main_arg0) = Alg.x m c := (hagree c).1
    have a1 : m' ((c.tc : Thread Cert.ReferenceIdeal.nD Cert.ReferenceIdeal.τ).loc Cert.ReferenceIdeal.main_arg1) = Alg.e m c := (hagree c).2
    rw [a0, a1] at h41 h42 h27 h17 h43
    refine ⟨h41.trans (Alg.loss m c), h42.trans ?_, h27.trans (Alg.perp m c), h17.trans (RTot.mat_eq _ _ _ (Alg.first m c)),
      h43.trans (RTot.col_eq _ _ _ (Alg.first m c)), k0, k1⟩
    exact congrArg (fun q => transpose Cert.ReferenceIdeal.S8x32x32x32 [0, 3, 1, 2] q
        Cert.ReferenceIdeal.Facts₀.transposes_S8x32x32x32_S8x32x32x32_0_3_1_2) (Alg.zq m c _)

end Cert.Proof
-- ==== Proof.lean ====
/- The proof of the certificate's claims, assembled from the modules under Proof/. -/
module

public import proofs.«01_k».proof.Proof.FrK
public import proofs.«01_k».proof.Proof.RefRun
public import proofs.«01_k».proof.Proof.Alg

@[expose] public section

namespace Cert.Proof

open Idealize.ShloMosaic Idealize.SL.Sem

/-- All the claims, over the programs' facts. -/
theorem claim : Cert.Claim :=
  ⟨Cert.Kernel.Gen.facts, Cert.KernelIdeal.Gen.facts, Cert.ReferenceIdeal.Gen.facts, frame_k, frame_ki, frame_r, trivial, algebraic⟩

end Cert.Proof
